-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 32768]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_ReferenceIdeal.lean ====
abbrev S256x512 : Shape := ⟨2, ![256, 512]⟩
abbrev S512x32768 : Shape := ⟨2, ![512, 32768]⟩
abbrev S_ : Shape := ⟨0, ![]⟩

class Facts : Prop where
  bcast_S_S256x512 : S_.BroadcastsInDim S256x512 (![] : Fin 0 → Fin S256x512.rank)
  bcast_S_S512x32768 : S_.BroadcastsInDim S512x32768 (![] : Fin 0 → Fin S512x32768.rank)

variable [Facts]

def fn {F : FTy → Type} [FloatOps F] (main_arg0 : FVec F S256x512 .f32) (main_arg1 : FVec F S512x32768 .f32) : IVec S256x512 1 × IVec S512x32768 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x32768 .f32 := Host.absf main_arg1
  let main_cst_0 : FVec F S_ .f32 := constant S_ .f32 0x7F800000#32
  let main_v4 : FVec F S512x32768 .f32 := broadcastInDim S512x32768 ![] bcast_S_S512x32768 main_cst_0
  let main_v5 : IVec S512x32768 1 := cmpf .olt main_v3 main_v4
  (main_v2, main_v5)
-- ==== Kernel.lean ====
abbrev S256x512 : Shape := ⟨2, ![256, 512]⟩
abbrev S512x4096 : Shape := ⟨2, ![512, 4096]⟩
abbrev S256x32768 : Shape := ⟨2, ![256, 32768]⟩
abbrev S8x2x256 : Shape := ⟨3, ![8, 2, 256]⟩
abbrev S7 : Shape := ⟨1, ![7]⟩
abbrev S4 : Shape := ⟨1, ![4]⟩
abbrev S9 : Shape := ⟨1, ![9]⟩
abbrev S_ : Shape := ⟨0, ![]⟩
abbrev S256x4096 : Shape := ⟨2, ![256, 4096]⟩
abbrev S256 : Shape := ⟨1, ![256]⟩
abbrev S256x1 : Shape := ⟨2, ![256, 1]⟩
abbrev S1x1x256 : Shape := ⟨3, ![1, 1, 256]⟩
abbrev S1 : Shape := ⟨1, ![1]⟩
abbrev S1x2x256 : Shape := ⟨3, ![1, 2, 256]⟩
abbrev S2x256 : Shape := ⟨2, ![2, 256]⟩
abbrev S8x1x256 : Shape := ⟨3, ![8, 1, 256]⟩
abbrev S8x256 : Shape := ⟨2, ![8, 256]⟩
abbrev S1x256 : Shape := ⟨2, ![1, 256]⟩
abbrev S256x1024 : Shape := ⟨2, ![256, 1024]⟩
abbrev S256x1792 : Shape := ⟨2, ![256, 1792]⟩
abbrev S256x1152 : Shape := ⟨2, ![256, 1152]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x32768, .f32⟩
  | .local _ .vmem, ⟨0, _⟩ => ⟨S256x512, .f32⟩
  | .local _ .vmem, ⟨1, _⟩ => ⟨S512x4096, .f32⟩
  | .local _ .vmem, ⟨2, _⟩ => ⟨S256x32768, .f32⟩
  | .local _ .vmem, ⟨3, _⟩ => ⟨S256x32768, .bf16⟩
  | .local _ .vmem, ⟨4, _⟩ => ⟨S8x2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v15 : BitVec 32 := Scalar.addi v2 c1_i32_6
  let c8_i32_7 : BitVec 32 := 8#32
  let v16 : BitVec 32 := Scalar.remsi v15 c8_i32_7
  let c1_i32_9 : BitVec 32 := 1#32
  let v17 : BitVec 32 := Scalar.muli v16 c1_i32_9
  let v18 : BitVec 32 := Scalar.addi c0_i32 v17
  v18.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.addi v2 c2_i32
  let c8_i32_10 : BitVec 32 := 8#32
  let v20 : BitVec 32 := Scalar.remsi v19 c8_i32_10
  let c1_i32_12 : BitVec 32 := 1#32
  let v21 : BitVec 32 := Scalar.muli v20 c1_i32_12
  let v22 : BitVec 32 := Scalar.addi c0_i32_13 v21
  v22.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_14 : BitVec 32 := 3#32
  let v23 : BitVec 32 := Scalar.addi v2 c3_i32_14
  let c8_i32_15 : BitVec 32 := 8#32
  let v24 : BitVec 32 := Scalar.remsi v23 c8_i32_15
  let c1_i32_17 : BitVec 32 := 1#32
  let v25 : BitVec 32 := Scalar.muli v24 c1_i32_17
  let v26 : BitVec 32 := Scalar.addi c0_i32_18 v25
  v26.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v27 : BitVec 32 := Scalar.addi v2 c4_i32_19
  let c8_i32_20 : BitVec 32 := 8#32
  let v28 : BitVec 32 := Scalar.remsi v27 c8_i32_20
  let c1_i32_22 : BitVec 32 := 1#32
  let v29 : BitVec 32 := Scalar.muli v28 c1_i32_22
  let v30 : BitVec 32 := Scalar.addi c0_i32_23 v29
  v30.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v31 : BitVec 32 := Scalar.addi v2 c5_i32
  let c8_i32_24 : BitVec 32 := 8#32
  let v32 : BitVec 32 := Scalar.remsi v31 c8_i32_24
  let c1_i32_26 : BitVec 32 := 1#32
  let v33 : BitVec 32 := Scalar.muli v32 c1_i32_26
  let v34 : BitVec 32 := Scalar.addi c0_i32_27 v33
  v34.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v35 : BitVec 32 := Scalar.addi v2 c6_i32
  let c8_i32_28 : BitVec 32 := 8#32
  let v36 : BitVec 32 := Scalar.remsi v35 c8_i32_28
  let c1_i32_30 : BitVec 32 := 1#32
  let v37 : BitVec 32 := Scalar.muli v36 c1_i32_30
  let v38 : BitVec 32 := Scalar.addi c0_i32_31 v37
  v38.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v39 : BitVec 32 := Scalar.addi v2 c7_i32
  let c8_i32_32 : BitVec 32 := 8#32
  let v40 : BitVec 32 := Scalar.remsi v39 c8_i32_32
  let c1_i32_34 : BitVec 32 := 1#32
  let v41 : BitVec 32 := Scalar.muli v40 c1_i32_34
  let v42 : BitVec 32 := Scalar.addi c0_i32_35 v41
  v42.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v62 : BitVec 32 := Scalar.addi v2 c1_i32_47
  let c8_i32_48 : BitVec 32 := 8#32
  let v63 : BitVec 32 := Scalar.remsi v62 c8_i32_48
  let c1_i32_53 : BitVec 32 := 1#32
  let v64 : BitVec 32 := Scalar.muli v63 c1_i32_53
  let v65 : BitVec 32 := Scalar.addi c0_i32_54 v64
  v65.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v74 : BitVec 32 := Scalar.addi v2 c2_i32_59
  let c8_i32_60 : BitVec 32 := 8#32
  let v75 : BitVec 32 := Scalar.remsi v74 c8_i32_60
  let c1_i32_65 : BitVec 32 := 1#32
  let v76 : BitVec 32 := Scalar.muli v75 c1_i32_65
  let v77 : BitVec 32 := Scalar.addi c0_i32_66 v76
  v77.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_71 : BitVec 32 := 3#32
  let v86 : BitVec 32 := Scalar.addi v2 c3_i32_71
  let c8_i32_72 : BitVec 32 := 8#32
  let v87 : BitVec 32 := Scalar.remsi v86 c8_i32_72
  let c1_i32_77 : BitVec 32 := 1#32
  let v88 : BitVec 32 := Scalar.muli v87 c1_i32_77
  let v89 : BitVec 32 := Scalar.addi c0_i32_78 v88
  v89.toNat
def k0_dev11 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v98 : BitVec 32 := Scalar.addi v2 c4_i32_83
  let c8_i32_84 : BitVec 32 := 8#32
  let v99 : BitVec 32 := Scalar.remsi v98 c8_i32_84
  let c1_i32_89 : BitVec 32 := 1#32
  let v100 : BitVec 32 := Scalar.muli v99 c1_i32_89
  let v101 : BitVec 32 := Scalar.addi c0_i32_90 v100
  v101.toNat
def k0_dev12 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v110 : BitVec 32 := Scalar.addi v2 c5_i32_95
  let c8_i32_96 : BitVec 32 := 8#32
  let v111 : BitVec 32 := Scalar.remsi v110 c8_i32_96
  let c1_i32_101 : BitVec 32 := 1#32
  let v112 : BitVec 32 := Scalar.muli v111 c1_i32_101
  let v113 : BitVec 32 := Scalar.addi c0_i32_102 v112
  v113.toNat
def k0_dev13 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_107 : BitVec 32 := 6#32
  let v122 : BitVec 32 := Scalar.addi v2 c6_i32_107
  let c8_i32_108 : BitVec 32 := 8#32
  let v123 : BitVec 32 := Scalar.remsi v122 c8_i32_108
  let c1_i32_113 : BitVec 32 := 1#32
  let v124 : BitVec 32 := Scalar.muli v123 c1_i32_113
  let v125 : BitVec 32 := Scalar.addi c0_i32_114 v124
  v125.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_119 : BitVec 32 := 7#32
  let v134 : BitVec 32 := Scalar.addi v2 c7_i32_119
  let c8_i32_120 : BitVec 32 := 8#32
  let v135 : BitVec 32 := Scalar.remsi v134 c8_i32_120
  let c1_i32_125 : BitVec 32 := 1#32
  let v136 : BitVec 32 := Scalar.muli v135 c1_i32_125
  let v137 : BitVec 32 := Scalar.addi c0_i32_126 v136
  v137.toNat
def k0_off1 (d0 : Dev nD) : Fin 2 → Nat :=
  let c0_131 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4096_i32 : BitVec 32 := 4096#32
  let v146 : BitVec 32 := Scalar.muli v2 c4096_i32
  let v147 : Index := Scalar.indexCast v146
  ![0, v147.toNat]
def k0_off2 (d0 : Dev nD) : Fin 2 → Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4096_i32_278 : BitVec 32 := 4096#32
  let v275 : BitVec 32 := Scalar.muli v2 c4096_i32_278
  ![0, v275.toNat]
def k0_dev15 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v12 : BitVec 32 := Scalar.addi v2 c4_i32_4
  let c8_i32_5 : BitVec 32 := 8#32
  let v13 : BitVec 32 := Scalar.remsi v12 c8_i32_5
  let c1_i32_281 : BitVec 32 := 1#32
  let v276 : BitVec 32 := Scalar.muli v13 c1_i32_281
  let v277 : BitVec 32 := Scalar.addi c0_i32_282 v276
  v277.toNat
def k0_off3 (d0 : Dev nD) (c4_i32_285 : BitVec 32) (c0_i32_288 : BitVec 32) (c0_i32_289 : BitVec 32) : Fin 2 → Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v284 : BitVec 32 := Scalar.addi v3 c4_i32_285
  let c4_i32_286 : BitVec 32 := 4#32
  let v285 : BitVec 32 := Scalar.remsi v284 c4_i32_286
  let v286 : BitVec 32 := Scalar.addi v4 v285
  let c4096_i32_287 : BitVec 32 := 4096#32
  let v287 : BitVec 32 := Scalar.muli v286 c4096_i32_287
  let v288 : BitVec 32 := Scalar.addi v287 c0_i32_288
  let v289 : BitVec 32 := Scalar.addi v288 c0_i32_289
  ![0, v289.toNat]
def k0_off3_at (r : Fin 12) : BitVec 32 × BitVec 32 × BitVec 32 :=
  if r.val < 6 then
    if r.val < 3 then
      if r.val < 1 then
        (4#32, 0#32, 0#32)
      else
        if r.val < 2 then
          (0#32, 2048#32, 0#32)
        else
          (4#32, 0#32, 1024#32)
    else
      if r.val < 4 then
        (0#32, 2048#32, 1024#32)
      else
        if r.val < 5 then
          (3#32, 0#32, 0#32)
        else
          (1#32, 2048#32, 0#32)
  else
    if r.val < 9 then
      if r.val < 7 then
        (3#32, 0#32, 1024#32)
      else
        if r.val < 8 then
          (1#32, 2048#32, 1024#32)
        else
          (2#32, 0#32, 0#32)
    else
      if r.val < 10 then
        (2#32, 2048#32, 0#32)
      else
        if r.val < 11 then
          (2#32, 0#32, 1024#32)
        else
          (2#32, 2048#32, 1024#32)
def k0_dev16 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_292 : BitVec 32 := 1#32
  let v290 : BitVec 32 := Scalar.muli v8 c1_i32_292
  let v291 : BitVec 32 := Scalar.addi c0_i32_293 v290
  v291.toNat
def k0_dev17 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_302 : BitVec 32 := 1#32
  let v304 : BitVec 32 := Scalar.muli v11 c1_i32_302
  let v305 : BitVec 32 := Scalar.addi c0_i32_303 v304
  v305.toNat
def k0_dev18 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_312 : BitVec 32 := 1#32
  let v318 : BitVec 32 := Scalar.muli v8 c1_i32_312
  let v319 : BitVec 32 := Scalar.addi c0_i32_313 v318
  v319.toNat
def k0_dev19 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_323 : BitVec 32 := 1#32
  let v332 : BitVec 32 := Scalar.muli v11 c1_i32_323
  let v333 : BitVec 32 := Scalar.addi c0_i32_324 v332
  v333.toNat
def k0_dev20 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_356 : BitVec 32 := 1#32
  let v366 : BitVec 32 := Scalar.muli v8 c1_i32_356
  let v367 : BitVec 32 := Scalar.addi c0_i32_357 v366
  v367.toNat
def k0_dev21 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_367 : BitVec 32 := 1#32
  let v380 : BitVec 32 := Scalar.muli v11 c1_i32_367
  let v381 : BitVec 32 := Scalar.addi c0_i32_368 v380
  v381.toNat
def k0_dev22 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_400 : BitVec 32 := 1#32
  let v414 : BitVec 32 := Scalar.muli v8 c1_i32_400
  let v415 : BitVec 32 := Scalar.addi c0_i32_401 v414
  v415.toNat
def k0_dev23 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_411 : BitVec 32 := 1#32
  let v428 : BitVec 32 := Scalar.muli v11 c1_i32_411
  let v429 : BitVec 32 := Scalar.addi c0_i32_412 v428
  v429.toNat
def k0_off4 (d0 : Dev nD) (c0_i32_415 : BitVec 32) : Fin 2 → Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v436 : BitVec 32 := Scalar.addi v3 c0_i32_415
  let c1_i32_416 : BitVec 32 := 1#32
  let v437 : BitVec 32 := Scalar.addi v436 c1_i32_416
  let c4_i32_417 : BitVec 32 := 4#32
  let v438 : BitVec 32 := Scalar.remsi v437 c4_i32_417
  let v439 : BitVec 32 := Scalar.addi v4 v438
  let c4096_i32_419 : BitVec 32 := 4096#32
  let v442 : BitVec 32 := Scalar.muli v439 c4096_i32_419
  let c2304_i32_420 : BitVec 32 := 2304#32
  let v443 : BitVec 32 := Scalar.addi v442 c2304_i32_420
  ![0, v443.toNat]
def k0_dev24 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v12 : BitVec 32 := Scalar.addi v2 c4_i32_4
  let c8_i32_5 : BitVec 32 := 8#32
  let v13 : BitVec 32 := Scalar.remsi v12 c8_i32_5
  let c1_i32_423 : BitVec 32 := 1#32
  let v444 : BitVec 32 := Scalar.muli v13 c1_i32_423
  let v445 : BitVec 32 := Scalar.addi c0_i32_424 v444
  v445.toNat
def k0_dev25 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_456 : BitVec 32 := 1#32
  let v478 : BitVec 32 := Scalar.muli v8 c1_i32_456
  let v479 : BitVec 32 := Scalar.addi c0_i32_457 v478
  v479.toNat
def k0_dev26 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_467 : BitVec 32 := 1#32
  let v492 : BitVec 32 := Scalar.muli v11 c1_i32_467
  let v493 : BitVec 32 := Scalar.addi c0_i32_468 v492
  v493.toNat
def k0_dev27 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_500 : BitVec 32 := 1#32
  let v526 : BitVec 32 := Scalar.muli v8 c1_i32_500
  let v527 : BitVec 32 := Scalar.addi c0_i32_501 v526
  v527.toNat
def k0_dev28 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_511 : BitVec 32 := 1#32
  let v540 : BitVec 32 := Scalar.muli v11 c1_i32_511
  let v541 : BitVec 32 := Scalar.addi c0_i32_512 v540
  v541.toNat
def k0_dev29 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v12 : BitVec 32 := Scalar.addi v2 c4_i32_4
  let c8_i32_5 : BitVec 32 := 8#32
  let v13 : BitVec 32 := Scalar.remsi v12 c8_i32_5
  let c1_i32_524 : BitVec 32 := 1#32
  let v556 : BitVec 32 := Scalar.muli v13 c1_i32_524
  let v557 : BitVec 32 := Scalar.addi c0_i32_525 v556
  v557.toNat
def k0_dev30 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v12 : BitVec 32 := Scalar.addi v2 c4_i32_4
  let c8_i32_5 : BitVec 32 := 8#32
  let v13 : BitVec 32 := Scalar.remsi v12 c8_i32_5
  let c1_i32_581 : BitVec 32 := 1#32
  let v612 : BitVec 32 := Scalar.muli v13 c1_i32_581
  let v613 : BitVec 32 := Scalar.addi c0_i32_582 v612
  v613.toNat
def k0_off5 (d0 : Dev nD) (c4_i32_596 : BitVec 32) : Fin 2 → Nat :=
  let c0_i32_609 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let v630 : BitVec 32 := Scalar.addi v3 c4_i32_596
  let c4_i32_597 : BitVec 32 := 4#32
  let v631 : BitVec 32 := Scalar.remsi v630 c4_i32_597
  let v632 : BitVec 32 := Scalar.addi v5 v631
  let c4096_i32_601 : BitVec 32 := 4096#32
  let v637 : BitVec 32 := Scalar.muli v632 c4096_i32_601
  ![0, v637.toNat]
def k0_dev31 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_607 : BitVec 32 := 1#32
  let v642 : BitVec 32 := Scalar.muli v8 c1_i32_607
  let v643 : BitVec 32 := Scalar.addi c0_i32_608 v642
  v643.toNat
def k0_off6 (d0 : Dev nD) (c0_i32_598 : BitVec 32) : Fin 2 → Nat :=
  let c0_i32_615 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let v633 : BitVec 32 := Scalar.addi v3 c0_i32_598
  let c4_i32_599 : BitVec 32 := 4#32
  let v634 : BitVec 32 := Scalar.remsi v633 c4_i32_599
  let v635 : BitVec 32 := Scalar.addi v5 v634
  let c4096_i32_603 : BitVec 32 := 4096#32
  let v640 : BitVec 32 := Scalar.muli v635 c4096_i32_603
  let c1152_i32_604 : BitVec 32 := 1152#32
  let v641 : BitVec 32 := Scalar.addi v640 c1152_i32_604
  ![0, v641.toNat]
def k0_dev32 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_613 : BitVec 32 := 1#32
  let v650 : BitVec 32 := Scalar.muli v11 c1_i32_613
  let v651 : BitVec 32 := Scalar.addi c0_i32_614 v650
  v651.toNat
def k0_off7 (d0 : Dev nD) (c2_i32_621 : BitVec 32) : Fin 2 → Nat :=
  let c0_624 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v665 : BitVec 32 := Scalar.addi v3 c2_i32_621
  let c4_i32_622 : BitVec 32 := 4#32
  let v666 : BitVec 32 := Scalar.remsi v665 c4_i32_622
  let v667 : BitVec 32 := Scalar.addi v4 v666
  let c4096_i32_623 : BitVec 32 := 4096#32
  let v668 : BitVec 32 := Scalar.muli v667 c4096_i32_623
  let v669 : Index := Scalar.indexCast v668
  ![0, v669.toNat]
def k0_dev33 (d0 : Dev nD) : Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_661 : BitVec 32 := 1#32
  let v707 : BitVec 32 := Scalar.muli v8 c1_i32_661
  let v708 : BitVec 32 := Scalar.addi c0_i32_662 v707
  v708.toNat
def k0_dev34 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_667 : BitVec 32 := 1#32
  let v715 : BitVec 32 := Scalar.muli v11 c1_i32_667
  let v716 : BitVec 32 := Scalar.addi c0_i32_668 v715
  v716.toNat
def k0_dev35 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v4 v7
  let c1_i32_717 : BitVec 32 := 1#32
  let v775 : BitVec 32 := Scalar.muli v8 c1_i32_717
  let v776 : BitVec 32 := Scalar.addi c0_i32_718 v775
  v776.toNat
def k0_dev36 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.addi v3 c3_i32
  let c4_i32_3 : BitVec 32 := 4#32
  let v10 : BitVec 32 := Scalar.remsi v9 c4_i32_3
  let v11 : BitVec 32 := Scalar.addi v4 v10
  let c1_i32_723 : BitVec 32 := 1#32
  let v783 : BitVec 32 := Scalar.muli v11 c1_i32_723
  let v784 : BitVec 32 := Scalar.addi c0_i32_724 v783
  v784.toNat
def k0_off8 (d0 : Dev nD) : Fin 2 → Nat :=
  let c0_728 : Index := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let v791 : BitVec 32 := Scalar.addi v5 v3
  let c4096_i32_727 : BitVec 32 := 4096#32
  let v792 : BitVec 32 := Scalar.muli v791 c4096_i32_727
  let v793 : Index := Scalar.indexCast v792
  ![0, v793.toNat]
def k0_off9 (d0 : Dev nD) (c1_i32_786 : BitVec 32) : Fin 2 → Nat :=
  let c0_789 : Index := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let v849 : BitVec 32 := Scalar.addi v3 c1_i32_786
  let c4_i32_787 : BitVec 32 := 4#32
  let v850 : BitVec 32 := Scalar.remsi v849 c4_i32_787
  let v851 : BitVec 32 := Scalar.addi v5 v850
  let c4096_i32_788 : BitVec 32 := 4096#32
  let v852 : BitVec 32 := Scalar.muli v851 c4096_i32_788
  let v853 : Index := Scalar.indexCast v852
  ![0, v853.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x32768 : Shape := ⟨2, ![512, 32768]⟩
abbrev S256x32768 : Shape := ⟨2, ![256, 32768]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x32768, .f32⟩
  | .hbm, ⟨2, _⟩ => ⟨S256x32768, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x32768, .f32⟩
  | .hbm, ⟨7, _⟩ => ⟨S256x32768, .f32⟩
  | .hbm, ⟨8, _⟩ => ⟨S256x32768, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x32768, .f32⟩
  | .hbm, ⟨13, _⟩ => ⟨S256x32768, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Tables.lean ====
/-
The kernel's transfers as tables: which copy moves which block of columns where, over which semaphores, and which pieces of
a device's memory it reads and fills. Numbers only; nothing here mentions the program.

A device `c` of the eight lies in the plane `c / 4` at place `c % 4`. Blocks of columns are named RELATIVE to the device that
holds them: `(p, r)` is the block of the device `r` places further in the same plane (`p = false`) or in the other one.
The 29 copies a device starts are numbered in program order: `0 … 6` the row statistics to the seven peers; `7` the whole
block to the device across; `8 … 15, 17 … 20` the two rings of the first phase; `16, 21, 22` the pieces passed on across the
planes; `23 … 28` the two rings of the second phase.
-/
module

public import Mathlib.Data.Fintype.Basic
public import Mathlib.Data.Fin.VecNotation
public import Mathlib.Data.List.FinRange
public import Mathlib.Tactic.FinCases

@[expose] public section

namespace Cert.Proto

/-- A piece of a device's two exchange buffers: of the block buffer, the relative block `(p, r)`, one of its six column
    pieces and one half of the ownership; or one of eight shares of the device's own statistics row; or the statistics row
    of the peer `k + 1` places behind. -/
abbrev Atom : Type := (Bool × Fin 4 × Fin 6 × Bool) ⊕ (Fin 8 ⊕ Fin 7)

/-- The column boundaries of the six pieces of a block. -/
def bd : Fin 7 → ℕ := ![0, 1024, 1152, 2048, 2304, 3072, 4096]

/-- What a block copy reads: the relative block, its pieces `lo ≤ · < hi`, which halves of the ownership travel with it, and
    the direction (`0` across, `1` to the right, `2` to the left). -/
structure Cp where
  p : Bool
  r : Fin 4
  lo : Fin 7
  hi : Fin 7
  sh : Bool → Bool
  dir : Fin 3

/-- The block copies `7 … 28` (a statistics copy's entry is not read). -/
def cp : Fin 29 → Cp :=
  let b : Bool → Bool := fun _ => true
  let l : Bool → Bool := fun h => !h
  let u : Bool → Bool := fun h => h
  let n : Cp := ⟨false, 0, 0, 0, b, 0⟩
  ![n, n, n, n, n, n, n,
    ⟨false, 0, 0, 6, l, 0⟩,
    ⟨false, 0, 0, 1, u, 1⟩, ⟨false, 0, 3, 5, u, 2⟩, ⟨false, 0, 1, 3, u, 1⟩, ⟨false, 0, 5, 6, u, 2⟩,
    ⟨false, 3, 0, 1, b, 1⟩, ⟨false, 1, 3, 5, l, 2⟩, ⟨false, 3, 1, 3, b, 1⟩, ⟨false, 1, 5, 6, l, 2⟩,
    ⟨false, 1, 4, 6, u, 0⟩,
    ⟨false, 2, 0, 1, b, 1⟩, ⟨false, 2, 3, 5, l, 2⟩, ⟨false, 2, 1, 3, b, 1⟩, ⟨false, 2, 5, 6, l, 2⟩,
    ⟨false, 2, 4, 6, u, 0⟩, ⟨false, 3, 4, 6, u, 0⟩,
    ⟨true, 0, 0, 2, b, 1⟩, ⟨true, 0, 2, 4, b, 2⟩,
    ⟨true, 3, 0, 2, b, 1⟩, ⟨true, 1, 2, 4, b, 2⟩,
    ⟨true, 2, 0, 2, b, 1⟩, ⟨true, 2, 2, 4, b, 2⟩]

/-- The plane and the place of a device. -/
def blk (c : Fin 8) (p : Bool) (r : Fin 4) : Fin 8 :=
  ⟨((c.val / 4 + p.toNat) % 2) * 4 + (c.val + r.val) % 4, by omega⟩

/-- The device copy `i` of device `c` goes to: `i + 1` devices on for a statistics copy, else across, right or left. -/
def dst (i : Fin 29) (c : Fin 8) : Fin 8 :=
  if i.val < 7 then ⟨(c.val + (i.val + 1)) % 8, by omega⟩
  else if (cp i).dir = 0 then blk c true 0
  else if (cp i).dir = 1 then blk c false 1
  else blk c false 3

/-- The device whose copy `i` comes to device `d`. -/
def org (i : Fin 29) (d : Fin 8) : Fin 8 :=
  if i.val < 7 then ⟨(d.val + (7 - i.val)) % 8, by omega⟩
  else if (cp i).dir = 0 then blk d true 0
  else if (cp i).dir = 1 then blk d false 3
  else blk d false 1

theorem dst_org : ∀ (i : Fin 29) (d : Fin 8), dst i (org i d) = d := by decide +kernel
theorem org_dst : ∀ (i : Fin 29) (c : Fin 8), org i (dst i c) = c := by decide +kernel

/-- The relative name, at the receiver, of the block copy `i` brings. -/
def dp (i : Fin 29) : Bool := if (cp i).dir = 0 then !(cp i).p else (cp i).p
def dr (i : Fin 29) : Fin 4 := if (cp i).dir = 0 then (cp i).r else if (cp i).dir = 1 then (cp i).r + 3 else (cp i).r + 1

/-- The sender's name and the receiver's are of one block. -/
theorem blk_dst : ∀ (i : Fin 29) (c : Fin 8), 7 ≤ i.val → blk (dst i c) (dp i) (dr i) = blk c (cp i).p (cp i).r := by
  decide +kernel

/-- Whether copy `i` reads the piece `a` of its sender. -/
def src (i : Fin 29) : Atom → Bool
  | .inl (p, r, pc, h) => decide (7 ≤ i.val) && (p == (cp i).p) && (r == (cp i).r)
      && decide ((cp i).lo.val ≤ pc.val) && decide (pc.val < (cp i).hi.val) && (cp i).sh h
  | .inr (.inl k) => decide (i.val = k.val) && decide (i.val < 7)
  | .inr (.inr _) => false

/-- Whether copy `i` fills the piece `a` of its receiver. -/
def lnd (i : Fin 29) : Atom → Bool
  | .inl (p, r, pc, _) => decide (7 ≤ i.val) && (p == dp i) && (r == dr i)
      && decide ((cp i).lo.val ≤ pc.val) && decide (pc.val < (cp i).hi.val)
  | .inr (.inl _) => false
  | .inr (.inr k) => decide (i.val = k.val)

/-- Copy `i`'s send semaphore and its receive semaphore, among a device's 61. -/
def sendN : Fin 29 → Fin 61 :=
  ![3, 4, 5, 6, 7, 8, 9, 17, 25, 43, 28, 46, 26, 44, 29, 47, 18, 27, 45, 30, 48, 19, 20, 31, 49, 32, 50, 33, 51]
def recvN : Fin 29 → Fin 61 :=
  ![10, 11, 12, 13, 14, 15, 16, 21, 34, 52, 37, 55, 35, 53, 38, 56, 22, 36, 54, 39, 57, 23, 24, 40, 58, 41, 59, 42, 60]

/-- Which copy a semaphore serves, and on which side (`true` the send side); none for the three staging semaphores. -/
def dec (n : Fin 61) : Option (Bool × Fin 29) :=
  match (List.finRange 29).find? (fun i => sendN i == n) with
  | some i => some (true, i)
  | none => match (List.finRange 29).find? (fun i => recvN i == n) with
    | some i => some (false, i)
    | none => none

theorem dec_send : ∀ i, dec (sendN i) = some (true, i) := by decide +kernel
theorem dec_recv : ∀ i, dec (recvN i) = some (false, i) := by decide +kernel
theorem dec_stage : ∀ n : Fin 61, n.val < 3 → dec n = none := by decide +kernel

/-- Every semaphore but the three staging ones is the send or the receive semaphore of one copy. -/
theorem sems_cover : ∀ n : Fin 61, n.val < 3 ∨ (∃ i, sendN i = n) ∨ (∃ i, recvN i = n) := by decide +kernel

/-! ## The state of a device along its program -/

/-- How far a device has come: it has started the copies below `n`, waited for the send side of those in `ws` and for the
    receive side of those in `wr`, holds the pieces in `held`, and has in its result's relative blocks what `out` tells
    (`0` nothing known, `1` the exponentials before rescaling, `2` the result). -/
structure St where
  n : ℕ
  ws : Fin 29 → Bool
  wr : Fin 29 → Bool
  held : Atom → Bool
  out : Bool → Fin 4 → Fin 3

/-- Copy `i` started: its pieces gone. -/
def St.snd (s : St) (i : Fin 29) : St := { s with n := i.val + 1, held := fun a => s.held a && !src i a }
/-- The send side of copy `i` waited for: its pieces back. -/
def St.wS (s : St) (i : Fin 29) : St := { s with ws := fun j => s.ws j || j == i, held := fun a => s.held a || src i a }
/-- The receive side of copy `i` waited for: the pieces it filled held. -/
def St.wR (s : St) (i : Fin 29) : St := { s with wr := fun j => s.wr j || j == i, held := fun a => s.held a || lnd i a }
/-- Some pieces more. -/
def St.add (s : St) (A : Atom → Bool) : St := { s with held := fun a => s.held a || A a }
/-- A block of the result written. -/
def St.put (s : St) (p : Bool) (r : Fin 4) (v : Fin 3) : St :=
  { s with out := fun p' r' => if p' = p ∧ r' = r then v else s.out p' r' }

/-- The pieces of a device's own block. -/
def ownA : Atom → Bool
  | .inl (p, r, _, _) => !p && (r == 0)
  | .inr _ => false
/-- The eight shares of its own statistics row. -/
def row0A : Atom → Bool
  | .inr (.inl _) => true
  | _ => false
/-- Everything a device holds of the statistics. -/
def rowsA : Atom → Bool
  | .inr _ => true
  | _ => false
/-- The left halves of the pieces of the relative block `(p, r)`. -/
def blkA (p : Bool) (r : Fin 4) : Atom → Bool
  | .inl (p', r', _, h) => (p' == p) && (r' == r) && !h
  | .inr _ => false

/-- Before any copy, holding the own statistics row, -/
def z₀ : St := ⟨0, fun _ => false, fun _ => false, row0A, fun _ _ => 0⟩
/-- with the seven statistics copies started and the exponentials stored, -/
def z₁ : St := (((((((z₀.snd 0).snd 1).snd 2).snd 3).snd 4).snd 5).snd 6).put false 0 1
/-- and waited for. -/
def z₂ : St := (((((((((((((z₁.wS 0).wR 0).wS 1).wR 1).wS 2).wR 2).wS 3).wR 3).wS 4).wR 4).wS 5).wR 5).wS 6).wR 6

end Cert.Proto
-- ==== Proof.Proto.lean ====
/-
The kernel's protocol over the tables of `Tables`: its buffers cut into pieces, what each piece holds once it is filled, and
the schedule of its semaphores. Every transfer semaphore is used once, so there is one round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Tables
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.ValueIdxCore

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and the semaphores -/

abbrev xM : Memref sig .tc .vmem S256x512 .f32 := Memref.whole cc0_stg0_0
abbrev wM : Memref sig .tc .vmem S512x4096 .f32 := Memref.whole cc0_stg1_0
abbrev oM : Memref sig .tc .vmem S256x32768 .f32 := Memref.whole cc0_stg2_0
abbrev cM : Memref sig .tc .vmem S256x32768 .bf16 := Memref.whole cc0_scratch0
abbrev tM : Memref sig .tc .vmem S8x2x256 .f32 := Memref.whole cc0_scratch1

abbrev cLoc (d : Dev nD) : Loc nD τ sig := (d : Thread nD τ).loc cc0_scratch0
abbrev tLoc (d : Dev nD) : Loc nD τ sig := (d : Thread nD τ).loc cc0_scratch1
abbrev oLoc (d : Dev nD) : Loc nD τ sig := (d : Thread nD τ).loc cc0_stg2_0

/-- The runtime's barrier semaphore, and the transfer semaphores by number. -/
abbrev barS : Sem sig := (SemArray.scalar (sig.barrier 0 rfl) : Sems sig S_).sem
abbrev dS (n : Fin 61) : DmaSem sig := n

abbrev barCell (c : Dev nD) : GSem nD τ sig := ((c : Thread nD τ), .reg barS)
/-- The send side (`true`) or the receive side of copy `i`. -/
abbrev xsem (si : Bool × Fin 29) : SemLoc sig := .dma (dS (if si.1 then sendN si.2 else recvN si.2))
abbrev sendCell (i : Fin 29) (c : Dev nD) : GSem nD τ sig := ((c : Thread nD τ), .dma (dS (sendN i)))
abbrev recvCell (i : Fin 29) (c : Dev nD) : GSem nD τ sig := ((c : Thread nD τ), .dma (dS (recvN i)))

/-- All of a device's cells: the barrier's and the transfers'. -/
abbrev CI : Type := Option (Bool × Fin 29)
abbrev csem : CI → SemLoc sig
  | none => .reg barS
  | some si => xsem si
abbrev kcell (ck : Dev nD × CI) : GSem nD τ sig := ((ck.1 : Thread nD τ), csem ck.2)

/-! ## Contents -/

/-- The device `k` places before `d`. -/
def bk (d : Fin 8) (k : Fin 8) : Fin 8 := ⟨(d.val + (8 - k.val)) % 8, Nat.mod_lt _ (by decide)⟩

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s row maxima, exponentials and row sums over its own columns. -/
def mL (c : Dev nD) : FVec F S256 .f32 := k0_pay3 (xstg m ρ c) (wstg m ρ c)
def eL (c : Dev nD) : FVec F S256x4096 .f32 := k0_pay4 (xstg m ρ c) (wstg m ρ c)
def sL (c : Dev nD) : FVec F S256 .f32 := k0_pay5 (xstg m ρ c) (wstg m ρ c)

/-- The statistics buffer filled: in row `k` the maxima and the sums of the device `k` places before. -/
def statG (d : Dev nD) : Buf (Elt F) (tLoc d) := fun (i : S8x2x256.Idx) =>
  if (i 1).val = 0 then k0_pay6 (mL m ρ (bk d (i 0))) (ValueIdx.ix3 0 0 (i 2))
  else k0_pay7 (sL m ρ (bk d (i 0))) (ValueIdx.ix3 0 0 (i 2))

/-- The two loads of the filled statistics buffer: all maxima, all sums. -/
def rdM (d : Dev nD) : Vec F S8x1x256 .f32 :=
  tM.view.readAt (Elt F) (Rect.unit (s := S8x2x256) ![0, 0, 0] S8x1x256.size inb_S8x2x256_S8x1x256_0_0_0).toLoadRect (statG m ρ d)
def rdS (d : Dev nD) : Vec F S8x1x256 .f32 :=
  tM.view.readAt (Elt F) (Rect.unit (s := S8x2x256) ![0, 1, 0] S8x1x256.size inb_S8x2x256_S8x1x256_0_1_0).toLoadRect (statG m ρ d)

/-- Device `c`'s block of the result, as it travels. -/
def blkV (c : Dev nD) : FVec F S256x4096 .bf16 := k0_pay8 (mL m ρ c) (rdM m ρ c) (rdS m ρ c) (eL m ρ c)

/-- The block a column lies in, and its place there. -/
def bkIx (i : S256x32768.Idx) : Fin 8 := ⟨(i 1).val / 4096, Nat.div_lt_of_lt_mul (i 1).isLt⟩
def inIx (i : S256x32768.Idx) : S256x4096.Idx := ValueIdx.ix2 (i 0) ⟨(i 1).val % 4096, Nat.mod_lt _ (by decide)⟩

/-- The block buffer filled: the same on every device. -/
def commG (d : Dev nD) : Buf (Elt F) (cLoc d) := fun (i : S256x32768.Idx) => blkV m ρ (bkIx i) (inIx i)
/-- The result. -/
def outG (d : Dev nD) : Buf (Elt F) (oLoc d) := fun (i : S256x32768.Idx) => k0_pay1 (blkV m ρ (bkIx i)) (inIx i)
/-- The result buffer's own block before it is rescaled. -/
def outE (d : Dev nD) : Buf (Elt F) (oLoc d) := fun (i : S256x32768.Idx) => eL m ρ d (inIx i)

/-! ## The pieces -/

/-- The columns `lo ≤ · < hi` of a block buffer. -/
def cols (lo hi : ℕ) : Finset S256x32768.Idx := Finset.univ.filter fun i => lo ≤ (i 1).val ∧ (i 1).val < hi
/-- A row of the statistics buffer. -/
def row (k : ℕ) : Finset S8x2x256.Idx := Finset.univ.filter fun i => (i 0).val = k

/-- The two halves of an ownership. -/
def half (h : Bool) : PosShare TreeShare := if h then fullShare.right else fullShare.left

/-- A piece held, filled. -/
def atomP (d : Dev nD) : Atom → sProp 𝕄
  | .inl (p, r, pc, h) => cLoc d ↦[cols (4096 * (blk d p r).val + bd pc.castSucc) (4096 * (blk d p r).val + bd pc.succ)]{half h} commG m ρ d
  | .inr (.inl k) => tLoc d ↦[row 0]{ShareLeaves.leaf 3 fullShare k} statG m ρ d
  | .inr (.inr k) => tLoc d ↦[row (k.val + 1)]{fullShare} statG m ρ d

/-- Several pieces held. -/
def Pool (d : Dev nD) (A : Atom → Bool) : sProp 𝕄 := bigSep (Finset.univ.filter fun a => A a = true) (atomP m ρ d)

/-- Where on its receiver `d` copy `i` lands, held at some contents. -/
def raw (i : Fin 29) (d : Dev nD) : sProp 𝕄 :=
  if i.val < 7 then iprop(∃ f : Buf (Elt F) (tLoc d), tLoc d ↦[row (i.val + 1)]{fullShare} f)
  else iprop(∃ f : Buf (Elt F) (cLoc d), cLoc d ↦[cols (4096 * (blk d (dp i) (dr i)).val + bd (cp i).lo) (4096 * (blk d (dp i) (dr i)).val + bd (cp i).hi)]{fullShare} f)

instance atomP_storable (d : Dev nD) (a : Atom) : BI.Storable (upEmb : UEmb _ 𝕄) (atomP (F := F) m ρ d a) := by
  unfold atomP; split <;> infer_instance
instance Pool_storable (d : Dev nD) (A : Atom → Bool) : BI.Storable (upEmb : UEmb _ 𝕄) (Pool (F := F) m ρ d A) := by
  unfold Pool; infer_instance
omit [FloatOps F] in
instance raw_storable (i : Fin 29) (d : Dev nD) : BI.Storable (upEmb : UEmb _ 𝕄) (raw (F := F) i d) := by
  unfold raw; split <;> infer_instance

/-! ## The schedule -/

/-- What the device `k` places before `c` hands it with its barrier signal: every place on that device `c`'s copies fill. -/
def barPay (c : Dev nD) (k : Fin 8) : sProp 𝕄 :=
  bigSep (Finset.univ.filter fun i : Fin 29 => dst i c = bk c k) fun i => raw i (dst i c)

omit [FloatOps F] in
instance barPay_storable (c : Dev nD) (k : Fin 8) : BI.Storable (upEmb : UEmb _ 𝕄) (barPay (F := F) c k) := by
  unfold barPay; infer_instance

/-- The number of units copy `i` credits on each side. -/
def Ncr (i : Fin 29) : ℕ :=
  if i.val < 7 then (Memref.view ((tM.slice (Rect.unit (s := S8x2x256) ![0, 0, 0] S1x2x256.size inb_S8x2x256_S1x2x256_0_0_0) (fun _ => rfl)).squeeze S2x256 squeezes_S1x2x256_S2x256)).dmaCredit
  else if i.val = 7 then sig.dmaCredit .tc (Kind.tc.table .vmem) cM.view.buf S256x4096 .bf16
  else if i.val = 16 ∨ i.val = 21 ∨ i.val = 22 then sig.dmaCredit .tc (Kind.tc.table .vmem) cM.view.buf S256x1792 .bf16
  else if i.val < 23 then sig.dmaCredit .tc (Kind.tc.table .vmem) cM.view.buf S256x1024 .bf16
  else sig.dmaCredit .tc (Kind.tc.table .vmem) cM.view.buf S256x1152 .bf16

theorem Ncr_pos (i : Fin 29) : 0 < Ncr i := by
  unfold Ncr
  split
  · exact View.dmaCredit_pos _ (by decide)
  split
  · exact sig.dmaCredit_pos _ _ _ _ _ (by decide)
  split
  · exact sig.dmaCredit_pos _ _ _ _ _ (by decide)
  split <;> exact sig.dmaCredit_pos _ _ _ _ _ (by decide)

/-- The duties of round 0: a barrier cell has one for each peer, a transfer cell one. -/
def dut : SemLoc sig → Finset (Fin 8)
  | .reg _ => Finset.univ.erase 0
  | .dma n => if (dec n).isSome then {0} else ∅
def amt : SemLoc sig → ℕ
  | .reg _ => 1
  | .dma n => match dec n with
    | some (_, i) => Ncr i
    | none => 1
def pay (d : Dev nD) (k : Fin 8) : SemLoc sig → sProp 𝕄
  | .reg _ => barPay d k
  | .dma n => match dec n with
    | some (true, i) => Pool m ρ d (src i)
    | some (false, i) => Pool m ρ d (lnd i)
    | none => iprop(emp)

def Rd : Rounds.Schedule (GSem nD τ sig) (Fin 8) 𝕄 where
  duties g r := if r = 0 ∧ g.1.2 = .tc then dut g.2 else ∅
  unitless _ := False
  amount g _ _ := amt g.2
  payload g _ d := pay m ρ g.1.1 d g.2
  amount_pos g _ _ _ := by
    unfold amt
    split
    · exact Nat.one_pos
    · split
      · exact Ncr_pos _
      · exact Nat.one_pos

instance Rd_payload_storable (g : GSem nD τ sig) (r : ℕ) (d : Fin 8) :
    BI.Storable (upEmb : UEmb _ 𝕄) ((Rd (F := F) m ρ).payload g r d) := by
  show BI.Storable upEmb (pay m ρ g.1.1 d g.2)
  unfold pay
  split
  · infer_instance
  · split <;> infer_instance

section Sched
variable (c : Dev nD) (i : Fin 29)

theorem duties_zero (sm : SemLoc sig) : (Rd (F := F) m ρ).duties ((c : Thread nD τ), sm) 0 = dut sm := by
  dsimp only [Rd]; exact if_pos ⟨rfl, rfl⟩
theorem duties_bar : (Rd (F := F) m ρ).duties (barCell c) 0 = Finset.univ.erase 0 := duties_zero m ρ c _
theorem duties_send : (Rd (F := F) m ρ).duties (sendCell i c) 0 = {0} := by
  rw [duties_zero]; unfold dut; simp only [dec_send]; rfl
theorem duties_recv : (Rd (F := F) m ρ).duties (recvCell i c) 0 = {0} := by
  rw [duties_zero]; unfold dut; simp only [dec_recv]; rfl
theorem duties_later (g : GSem nD τ sig) : ∀ r, 1 ≤ r → (Rd (F := F) m ρ).duties g r = ∅ :=
  fun r hr => by dsimp only [Rd]; exact if_neg fun h => by omega

theorem amount_bar (d : Fin 8) : (Rd (F := F) m ρ).amount (barCell c) 0 d = 1 := rfl
theorem amount_send (d : Fin 8) : (Rd (F := F) m ρ).amount (sendCell i c) 0 d = Ncr i := by
  show amt (.dma (dS (sendN i))) = _; unfold amt; simp only [dec_send]
theorem amount_recv (d : Fin 8) : (Rd (F := F) m ρ).amount (recvCell i c) 0 d = Ncr i := by
  show amt (.dma (dS (recvN i))) = _; unfold amt; simp only [dec_recv]

theorem payload_bar (d : Fin 8) : (Rd (F := F) m ρ).payload (barCell c) 0 d = barPay c d := rfl
theorem payload_send (d : Fin 8) : (Rd (F := F) m ρ).payload (sendCell i c) 0 d = Pool m ρ c (src i) := by
  show pay m ρ c d (.dma (dS (sendN i))) = _; unfold pay; simp only [dec_send]
theorem payload_recv (d : Fin 8) : (Rd (F := F) m ρ).payload (recvCell i c) 0 d = Pool m ρ c (lnd i) := by
  show pay m ρ c d (.dma (dS (recvN i))) = _; unfold pay; simp only [dec_recv]

theorem expect_bar : (Rd (F := F) m ρ).expect (barCell c) 0 = 7 := by
  unfold Schedule.expect Schedule.amountOf
  rw [duties_bar, Finset.sum_congr rfl fun d _ => amount_bar m ρ c d]; decide
theorem expect_send : (Rd (F := F) m ρ).expect (sendCell i c) 0 = Ncr i := by
  unfold Schedule.expect Schedule.amountOf; rw [duties_send, Finset.sum_singleton, amount_send]
theorem expect_recv : (Rd (F := F) m ρ).expect (recvCell i c) 0 = Ncr i := by
  unfold Schedule.expect Schedule.amountOf; rw [duties_recv, Finset.sum_singleton, amount_recv]

theorem rest_bar : bigSep ((Rd (F := F) m ρ).duties (barCell c) 0 \ ∅) (fun d => (Rd (F := F) m ρ).payload (barCell c) 0 d)
    = bigSep (Finset.univ.erase 0) (barPay c) := by
  rw [Finset.sdiff_empty, duties_bar]; rfl
theorem rest_send : bigSep ((Rd (F := F) m ρ).duties (sendCell i c) 0 \ ∅) (fun d => (Rd (F := F) m ρ).payload (sendCell i c) 0 d)
    = Pool m ρ c (src i) := by
  rw [Finset.sdiff_empty, duties_send, bigSep_singleton, payload_send]
theorem rest_recv : bigSep ((Rd (F := F) m ρ).duties (recvCell i c) 0 \ ∅) (fun d => (Rd (F := F) m ρ).payload (recvCell i c) 0 d)
    = Pool m ρ c (lnd i) := by
  rw [Finset.sdiff_empty, duties_recv, bigSep_singleton, payload_recv]

end Sched

/-! ## What a device owes, and the levels -/

/-- What a device has still to pay, in the order it pays it: its seven barrier signals, then its copies' receive sides. -/
def oc (c : Dev nD) (t : Fin 36) : GSem nD τ sig :=
  if h : t.val < 7 then barCell ⟨(c.val + (t.val + 1)) % 8, Nat.mod_lt _ (by decide)⟩
  else recvCell ⟨t.val - 7, by omega⟩ (dst ⟨t.val - 7, by omega⟩ c)
def on (t : Fin 36) : ℕ := if h : t.val < 7 then 1 else Ncr ⟨t.val - 7, by omega⟩

/-- What is left once the first `n` are paid. -/
def Ow (c : Dev nD) (n : ℕ) : CellTallies nD τ sig Unit :=
  ∑ t ∈ Finset.univ.filter (fun t : Fin 36 => n ≤ t.val), tallyAt (oc c t) () (on t)

theorem Ow_succ (c : Dev nD) (t : Fin 36) : Ow c t.val = Ow c (t.val + 1) + tallyAt (oc c t) () (on t) := by
  unfold Ow
  have : (Finset.univ.filter fun u : Fin 36 => t.val ≤ u.val) = insert t (Finset.univ.filter fun u : Fin 36 => t.val + 1 ≤ u.val) := by
    ext u; simp only [Finset.mem_filter, Finset.mem_univ, true_and, Finset.mem_insert, Fin.ext_iff]; omega
  rw [this, Finset.sum_insert (by simp), add_comm]

theorem Ow_end (c : Dev nD) : Ow c 36 = 0 := by
  unfold Ow
  rw [Finset.filter_false_of_mem fun t _ => by have := t.isLt; omega, Finset.sum_empty]

theorem Ow_pos {c : Dev nD} {n : ℕ} {g : GSem nD τ sig} {u : Unit} (h : 0 < Ow c n g u) : ∃ t : Fin 36, n ≤ t.val ∧ g = oc c t := by
  by_contra hn
  have hz : Ow c n g u = 0 := by
    unfold Ow
    rw [Finset.sum_apply, Finsupp.finset_sum_apply]
    refine Finset.sum_eq_zero fun t ht => ?_
    rw [tallyAt_apply, if_neg]
    exact fun h' => hn ⟨t, (Finset.mem_filter.mp ht).2, h'.1⟩
  omega

def L (g : GSem nD τ sig) : Finset Unit := if g.1.2 = .tc then {()} else ∅
/-- The barrier at 1, the receive side of copy `i` at `2 + i`, everything else at 0. -/
def lvS : SemLoc sig → ℕ
  | .reg _ => 1
  | .dma n => match dec n with
    | some (false, i) => 2 + i.val
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_send (i : Fin 29) : lvS (.dma (dS (sendN i))) = 0 := by unfold lvS; simp only [dec_send]
theorem lv_recv (i : Fin 29) : lvS (.dma (dS (recvN i))) = 2 + i.val := by unfold lvS; simp only [dec_recv]

theorem lv_oc (c : Dev nD) (t : Fin 36) : lv (oc c t) () = if t.val < 7 then 1 else t.val - 5 := by
  unfold oc
  split
  · rfl
  · show lvS (.dma (dS (recvN _))) = _; rw [lv_recv]; show 2 + (t.val - 7) = _; omega
theorem L_oc (c : Dev nD) (t : Fin 36) : L (oc c t) = {()} := by unfold oc; split <;> exact L_tc _ _

/-- A wait is allowed at a semaphore below everything owed. -/
theorem mayWait_lt (c : Dev nD) (sm : SemLoc sig) (n : ℕ) (h : ∀ t : Fin 36, n ≤ t.val → lvS sm < if t.val < 7 then 1 else t.val - 5) :
    (levAts L lv : sProp 𝕄) ⊢ MayWait (c : Thread nD τ) sm () (Ow c n) :=
  MayOwe.of_cut (L := L) (lev := lv) (lvS sm) (fun p hp => by rw [Finset.mem_singleton.mp hp, L_tc]; exact Finset.mem_singleton_self _)
    (fun g u hg => by obtain ⟨t, _, rfl⟩ := Ow_pos hg; rw [L_oc]; exact Finset.mem_singleton_self _)
    (fun p hp => by rw [Finset.mem_singleton.mp hp]; exact le_refl _)
    (fun g u hg => by obtain ⟨t, ht, rfl⟩ := Ow_pos hg; rw [show u = () from rfl, lv_oc]; exact h t ht)

end Cert.KernelIdealProof

end
-- ==== Proof.Pieces.lean ====
/-
Collections of pieces as single holdings: what a copy reads, what it fills, a whole block and the whole buffers.
-/
module

public import proofs.«01_k».proof.Proof.Proto

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Taking pieces out and putting them back -/

theorem Pool_or (c : Dev nD) (A B : Atom → Bool) (h : ∀ a, A a = true → B a = false) :
    Pool m ρ c (fun a => A a || B a) = iprop(Pool m ρ c A ∗ Pool m ρ c B) := by
  unfold Pool
  refine Eq.trans ?_ (bigSep_union (Finset.disjoint_filter.mpr fun a _ ha hb => by rw [h a ha] at hb; cases hb))
  congr 1
  ext a; simp only [Finset.mem_filter, Finset.mem_union, Finset.mem_univ, _root_.true_and, Bool.or_eq_true]

theorem Pool_take (c : Dev nD) (A B : Atom → Bool) (h : ∀ a, B a = true → A a = true) :
    Pool m ρ c A = iprop(Pool m ρ c B ∗ Pool m ρ c (fun a => A a && !B a)) := by
  rw [← Pool_or m ρ c B _ fun a ha => by rw [ha, Bool.not_true, Bool.and_false]]
  congr 1
  funext a
  cases hb : B a
  · simp
  · simp [h a hb]

/-! ## Columns -/

theorem bd_mono : ∀ a b : Fin 7, a ≤ b → bd a ≤ bd b := by decide
theorem bd_le : ∀ a : Fin 7, bd a ≤ 4096 := by decide

theorem piece_of (y : ℕ) (h : y < 4096) : ∃ pc : Fin 6, bd pc.castSucc ≤ y ∧ y < bd pc.succ := by
  by_cases h1 : y < 1024
  · exact ⟨0, Nat.zero_le _, h1⟩
  by_cases h2 : y < 1152
  · exact ⟨1, not_lt.mp h1, h2⟩
  by_cases h3 : y < 2048
  · exact ⟨2, not_lt.mp h2, h3⟩
  by_cases h4 : y < 2304
  · exact ⟨3, not_lt.mp h3, h4⟩
  by_cases h5 : y < 3072
  · exact ⟨4, not_lt.mp h4, h5⟩
  · exact ⟨5, not_lt.mp h5, h⟩

/-- The pieces `lo ≤ · < hi`. -/
def pcs (lo hi : Fin 7) : Finset (Fin 6) := Finset.univ.filter fun pc => lo.val ≤ pc.val ∧ pc.val < hi.val

theorem cols_pieces (b : ℕ) (lo hi : Fin 7) :
    (pcs lo hi).biUnion (fun pc => cols (b + bd pc.castSucc) (b + bd pc.succ)) = cols (b + bd lo) (b + bd hi) := by
  ext i
  simp only [pcs, cols, Finset.mem_biUnion, Finset.mem_filter, Finset.mem_univ, _root_.true_and]
  constructor
  · rintro ⟨pc, ⟨h1, h2⟩, h3, h4⟩
    have := bd_mono lo pc.castSucc h1
    have := bd_mono pc.succ hi (by show pc.val + 1 ≤ hi.val; omega)
    omega
  · rintro ⟨h1, h2⟩
    have hhi := bd_le hi
    obtain ⟨pc, h3, h4⟩ := piece_of ((i 1).val - b) (by omega)
    refine ⟨pc, ⟨?_, ?_⟩, by omega, by omega⟩
    · by_contra hn
      have := bd_mono pc.succ lo (by show pc.val + 1 ≤ lo.val; omega)
      omega
    · by_contra hn
      have := bd_mono hi pc.castSucc (by show hi.val ≤ pc.val; omega)
      omega

theorem cols_disjoint (b : ℕ) (pc pc' : Fin 6) (h : pc ≠ pc') :
    Disjoint (cols (b + bd pc.castSucc) (b + bd pc.succ)) (cols (b + bd pc'.castSucc) (b + bd pc'.succ)) := by
  refine Finset.disjoint_filter.mpr fun i _ h1 h2 => ?_
  rcases lt_or_gt_of_ne h with hl | hl
  · have := bd_mono pc.succ pc'.castSucc (by show pc.val + 1 ≤ pc'.val; exact hl)
    omega
  · have := bd_mono pc'.succ pc.castSucc (by show pc'.val + 1 ≤ pc.val; exact hl)
    omega

/-! ## One rectangle -/

/-- The pieces `lo ≤ · < hi` of the relative block `(p, r)`, one half. -/
def rectA (p : Bool) (r : Fin 4) (lo hi : Fin 7) (h : Bool) : Atom → Bool
  | .inl (p', r', pc, h') => (p' == p) && (r' == r) && decide (lo.val ≤ pc.val) && decide (pc.val < hi.val) && (h' == h)
  | .inr _ => false

def pieceAt (p : Bool) (r : Fin 4) (h : Bool) : Fin 6 ↪ Atom := ⟨fun pc => .inl (p, r, pc, h), fun a b e => by cases e; rfl⟩

theorem filter_rectA (p : Bool) (r : Fin 4) (lo hi : Fin 7) (h : Bool) :
    (Finset.univ.filter fun a => rectA p r lo hi h a = true) = (pcs lo hi).map (pieceAt p r h) := by
  ext a
  simp only [Finset.mem_filter, Finset.mem_univ, _root_.true_and, Finset.mem_map, pcs, pieceAt, Function.Embedding.coeFn_mk]
  constructor
  · intro ha
    match a, ha with
    | .inl (p', r', pc, h'), ha =>
      simp only [rectA, Bool.and_eq_true, beq_iff_eq, decide_eq_true_eq] at ha
      obtain ⟨⟨⟨⟨rfl, rfl⟩, h1⟩, h2⟩, rfl⟩ := ha
      exact ⟨pc, ⟨h1, h2⟩, rfl⟩
    | .inr _, ha => cases ha
  · rintro ⟨pc, ⟨h1, h2⟩, rfl⟩
    show (p == p && r == r && decide (lo.val ≤ pc.val) && decide (pc.val < hi.val) && h == h) = true
    simp [h1, h2]

theorem Pool_rect (c : Dev nD) (p : Bool) (r : Fin 4) (lo hi : Fin 7) (h : Bool) :
    Pool m ρ c (rectA p r lo hi h)
      = (cLoc c ↦[cols (4096 * (blk c p r).val + bd lo) (4096 * (blk c p r).val + bd hi)]{half h} commG m ρ c : sProp 𝕄) := by
  unfold Pool
  rw [filter_rectA, bigSep_map, ← cols_pieces, pointsTo_biUnion _ _ fun pc _ pc' _ hne => cols_disjoint _ pc pc' hne]
  rfl

/-- The share the halves in `sh` make. -/
def shq (sh : Bool → Bool) : PosShare TreeShare :=
  if sh false = true then (if sh true = true then fullShare else fullShare.left) else fullShare.right

theorem Pool_rects (c : Dev nD) (p : Bool) (r : Fin 4) (lo hi : Fin 7) (sh : Bool → Bool) (hs : sh false = true ∨ sh true = true) :
    Pool m ρ c (fun a => (sh false && rectA p r lo hi false a) || (sh true && rectA p r lo hi true a))
      = (cLoc c ↦[cols (4096 * (blk c p r).val + bd lo) (4096 * (blk c p r).val + bd hi)]{shq sh} commG m ρ c : sProp 𝕄) := by
  unfold shq
  cases hf : sh false <;> cases ht : sh true
  · rw [hf, ht] at hs; simp at hs
  · simp only [Bool.false_and, Bool.true_and, Bool.false_or, Bool.false_eq_true, if_false]
    exact Pool_rect m ρ c p r lo hi true
  · simp only [Bool.false_and, Bool.true_and, Bool.or_false, Bool.false_eq_true, if_false, if_true]
    exact Pool_rect m ρ c p r lo hi false
  · simp only [Bool.true_and, if_true]
    rw [Pool_or, Pool_rect, Pool_rect]
    · exact (BI.Entails.antisymm (pointsTo_share (PosShare.mem_left_op_right fullShare)).1 (pointsTo_share (PosShare.mem_left_op_right fullShare)).2).symm
    · intro a ha
      match a, ha with
      | .inl (p', r', pc, h'), ha =>
        simp only [rectA, Bool.and_eq_true, beq_iff_eq, decide_eq_true_eq] at ha
        obtain ⟨_, rfl⟩ := ha
        simp [rectA]
      | .inr _, ha => cases ha

/-! ## What a copy reads and fills -/

theorem sh_some : ∀ i : Fin 29, (cp i).sh false = true ∨ (cp i).sh true = true := by decide

theorem src_eq (i : Fin 29) (h7 : 7 ≤ i.val) :
    src i = fun a => ((cp i).sh false && rectA (cp i).p (cp i).r (cp i).lo (cp i).hi false a)
      || ((cp i).sh true && rectA (cp i).p (cp i).r (cp i).lo (cp i).hi true a) := by
  funext a
  match a with
  | .inl (p, r, pc, h) => cases h <;> simp [src, rectA, h7, Bool.and_comm]
  | .inr (.inl k) => simp [src, rectA, h7]
  | .inr (.inr k) => simp [src, rectA]

theorem lnd_eq (i : Fin 29) (h7 : 7 ≤ i.val) :
    lnd i = fun a => (true && rectA (dp i) (dr i) (cp i).lo (cp i).hi false a)
      || (true && rectA (dp i) (dr i) (cp i).lo (cp i).hi true a) := by
  funext a
  match a with
  | .inl (p, r, pc, h) => cases h <;> simp [lnd, rectA, h7]
  | .inr (.inl k) => simp [lnd, rectA]
  | .inr (.inr k) => simp [lnd, rectA]; omega

theorem Pool_src (c : Dev nD) (i : Fin 29) (h7 : 7 ≤ i.val) : Pool m ρ c (src i)
    = (cLoc c ↦[cols (4096 * (blk c (cp i).p (cp i).r).val + bd (cp i).lo) (4096 * (blk c (cp i).p (cp i).r).val + bd (cp i).hi)]{shq (cp i).sh} commG m ρ c : sProp 𝕄) := by
  rw [src_eq i h7]; exact Pool_rects m ρ c _ _ _ _ _ (sh_some i)

theorem Pool_lnd (c : Dev nD) (i : Fin 29) (h7 : 7 ≤ i.val) : Pool m ρ c (lnd i)
    = (cLoc c ↦[cols (4096 * (blk c (dp i) (dr i)).val + bd (cp i).lo) (4096 * (blk c (dp i) (dr i)).val + bd (cp i).hi)]{fullShare} commG m ρ c : sProp 𝕄) := by
  rw [lnd_eq i h7]; exact Pool_rects m ρ c _ _ _ _ (fun _ => true) (Or.inl rfl)

theorem Pool_srcT (c : Dev nD) (i : Fin 29) (h : i.val < 7) : Pool m ρ c (src i)
    = (tLoc c ↦[row 0]{ShareLeaves.leaf 3 fullShare ⟨i.val, by omega⟩} statG m ρ c : sProp 𝕄) := by
  unfold Pool
  rw [show (Finset.univ.filter fun a => src i a = true) = {.inr (.inl ⟨i.val, by omega⟩)} from ?_, bigSep_singleton]
  · rfl
  · ext a
    simp only [Finset.mem_filter, Finset.mem_univ, _root_.true_and, Finset.mem_singleton]
    match a with
    | .inl (p, r, pc, h') => simp [src]; omega
    | .inr (.inl k) => simp [src, h, Fin.ext_iff, eq_comm]
    | .inr (.inr k) => simp [src]

theorem Pool_lndT (c : Dev nD) (i : Fin 29) (h : i.val < 7) : Pool m ρ c (lnd i)
    = (tLoc c ↦[row (i.val + 1)]{fullShare} statG m ρ c : sProp 𝕄) := by
  unfold Pool
  rw [show (Finset.univ.filter fun a => lnd i a = true) = {.inr (.inr ⟨i.val, h⟩)} from ?_, bigSep_singleton]
  · rfl
  · ext a
    simp only [Finset.mem_filter, Finset.mem_univ, _root_.true_and, Finset.mem_singleton]
    match a with
    | .inl (p, r, pc, h') => simp [lnd]; omega
    | .inr (.inl k) => simp [lnd]
    | .inr (.inr k) => simp [lnd, Fin.ext_iff, eq_comm]

/-! ## A whole block, and the statistics -/

theorem Pool_blk (c : Dev nD) (p : Bool) (r : Fin 4) : Pool m ρ c (blkA p r)
    = (cLoc c ↦[cols (4096 * (blk c p r).val) (4096 * (blk c p r).val + 4096)]{fullShare.left} commG m ρ c : sProp 𝕄) := by
  have h := Pool_rect m ρ c p r 0 6 false
  rw [show rectA p r 0 6 false = blkA p r from ?_] at h
  · exact h
  · funext a
    match a with
    | .inl (p', r', pc, h') => cases h' <;> simp [rectA, blkA]
    | .inr _ => rfl

theorem Pool_own (c : Dev nD) : Pool m ρ c ownA
    = (cLoc c ↦[cols (4096 * (blk c false 0).val) (4096 * (blk c false 0).val + 4096)]{fullShare} commG m ρ c : sProp 𝕄) := by
  have h := Pool_rects m ρ c false 0 0 6 (fun _ => true) (Or.inl rfl)
  rw [show (fun a => (true && rectA false 0 0 6 false a) || (true && rectA false 0 0 6 true a)) = ownA from ?_] at h
  · exact h
  · funext a
    match a with
    | .inl (p', r', pc, h') => cases h' <;> simp [rectA, ownA]
    | .inr _ => rfl

/-- The eight shares of the own statistics row are the row. -/
theorem Pool_row0 (c : Dev nD) : Pool m ρ c row0A = (tLoc c ↦[row 0]{fullShare} statG m ρ c : sProp 𝕄) := by
  unfold Pool
  rw [show (Finset.univ.filter fun a => row0A a = true)
      = (Finset.univ : Finset (Fin 8)).map ⟨fun k => (.inr (.inl k) : Atom), fun a b e => by cases e; rfl⟩ from ?_, bigSep_map]
  · rw [ShareLeaves.pointsTo_leaves (row 0) (statG m ρ c) 3 fullShare]; rfl
  · ext a
    simp only [Finset.mem_filter, Finset.mem_univ, _root_.true_and, Finset.mem_map, Function.Embedding.coeFn_mk]
    match a with
    | .inl _ => exact ⟨fun h => (by cases h), fun ⟨_, e⟩ => (by cases e)⟩
    | .inr (.inl k) => exact ⟨fun _ => ⟨k, rfl⟩, fun _ => rfl⟩
    | .inr (.inr k) => exact ⟨fun h => (by cases h), fun ⟨_, e⟩ => (by cases e)⟩

theorem row_disjoint (k k' : ℕ) (h : k ≠ k') : Disjoint (row k) (row k') :=
  Finset.disjoint_filter.mpr fun i _ h1 h2 => h (h1.symm.trans h2)

theorem rows_all : row 0 ∪ (Finset.univ : Finset (Fin 7)).biUnion (fun k => row (k.val + 1)) = Finset.univ := by
  ext i
  simp only [row, Finset.mem_union, Finset.mem_biUnion, Finset.mem_filter, Finset.mem_univ, _root_.true_and, iff_true]
  have h : (i 0).val < 8 := (i 0).isLt
  by_cases h0 : (i 0).val = 0
  · exact Or.inl h0
  · exact Or.inr ⟨⟨(i 0).val - 1, by omega⟩, by show _ = (i 0).val - 1 + 1; omega⟩

theorem rows_disjoint : Disjoint (row 0) ((Finset.univ : Finset (Fin 7)).biUnion (fun k => row (k.val + 1))) :=
  (Finset.disjoint_biUnion_right _ _ _).mpr fun k _ => row_disjoint _ _ (by omega)

/-- All of the statistics are the whole buffer, filled. -/
theorem Pool_rows (c : Dev nD) : Pool m ρ c rowsA = (tLoc c ↦{fullShare} statG m ρ c : sProp 𝕄) := by
  have e : rowsA = fun a => row0A a || (fun a : Atom => match a with | .inr (.inr _) => true | _ => false) a := by
    funext a
    match a with
    | .inl _ => rfl
    | .inr (.inl _) => rfl
    | .inr (.inr _) => rfl
  rw [e, Pool_or, Pool_row0]
  · show _ = (tLoc c ↦[Finset.univ]{fullShare} statG m ρ c : sProp 𝕄)
    rw [← rows_all, BI.Entails.antisymm (pointsTo_union rows_disjoint).1 (pointsTo_union rows_disjoint).2]
    rw [pointsTo_biUnion _ _ fun k _ k' _ hne => row_disjoint _ _ fun h => hne (Fin.ext (by omega))]
    congr 1
  · exact fun a ha => match a, ha with
    | .inr (.inl _), _ => rfl

/-- Every block of the block buffer. -/
theorem cols_blocks (c : Dev nD) :
    (Finset.univ : Finset (Bool × Fin 4)).biUnion (fun x => cols (4096 * (blk c x.1 x.2).val) (4096 * (blk c x.1 x.2).val + 4096)) = Finset.univ := by
  ext i
  simp only [cols, Finset.mem_biUnion, Finset.mem_filter, Finset.mem_univ, _root_.true_and, iff_true]
  have hb : ∀ (c b : Fin 8), ∃ x : Bool × Fin 4, blk c x.1 x.2 = b := by decide +kernel
  obtain ⟨x, hx⟩ := hb c (bkIx i)
  refine ⟨x, ?_⟩
  rw [hx]
  show 4096 * ((i 1).val / 4096) ≤ _ ∧ _ < 4096 * ((i 1).val / 4096) + 4096
  omega

theorem blk_inj : ∀ (c : Fin 8) (x y : Bool × Fin 4), blk c x.1 x.2 = blk c y.1 y.2 → x = y := by decide +kernel

theorem blocks_disjoint (a b : Fin 8) (h : a ≠ b) :
    Disjoint (cols (4096 * a.val) (4096 * a.val + 4096)) (cols (4096 * b.val) (4096 * b.val + 4096)) :=
  Finset.disjoint_filter.mpr fun i _ h1 h2 => h (Fin.ext (by omega))

/-- Everything a block buffer holds. -/
def commA : Atom → Bool
  | .inl _ => true
  | .inr _ => false

/-- All pieces of the blocks are the whole block buffer, filled. -/
theorem Pool_comm (c : Dev nD) : Pool m ρ c commA = (cLoc c ↦{fullShare} commG m ρ c : sProp 𝕄) := by
  have hb : ∀ x : Bool × Fin 4, (cLoc c ↦[cols (4096 * (blk c x.1 x.2).val) (4096 * (blk c x.1 x.2).val + 4096)]{fullShare} commG m ρ c : sProp 𝕄)
      = bigSep Finset.univ fun y : Fin 6 × Bool => atomP m ρ c (.inl (x.1, x.2, y.1, y.2)) := by
    intro x
    have h := Pool_rects m ρ c x.1 x.2 0 6 (fun _ => true) (Or.inl rfl)
    refine Eq.trans (h.symm) ?_
    unfold Pool
    rw [show (Finset.univ.filter fun a => ((true && rectA x.1 x.2 0 6 false a) || (true && rectA x.1 x.2 0 6 true a)) = true)
      = (Finset.univ : Finset (Fin 6 × Bool)).map ⟨fun y => (.inl (x.1, x.2, y.1, y.2) : Atom), fun a b e => by
          obtain ⟨a1, a2⟩ := a; obtain ⟨b1, b2⟩ := b; cases e; rfl⟩ from ?_, bigSep_map]
    · rfl
    · ext a
      simp only [Finset.mem_filter, Finset.mem_univ, _root_.true_and, Finset.mem_map, Function.Embedding.coeFn_mk]
      match a with
      | .inl (p', r', pc, h') =>
        have h0 : (0 : Fin 7).val ≤ pc.val := Nat.zero_le _
        have h6 : pc.val < (6 : Fin 7).val := pc.isLt
        constructor
        · intro h
          have h1 : p' = x.1 ∧ r' = x.2 := by
            cases h' <;> simp only [rectA, Bool.or_eq_true, Bool.and_eq_true, beq_iff_eq] at h <;> rcases h with h | h <;> exact ⟨h.2.1.1.1.1, h.2.1.1.1.2⟩
          obtain ⟨rfl, rfl⟩ := h1
          exact ⟨(pc, h'), rfl⟩
        · rintro ⟨⟨pc, h'⟩, e⟩
          cases e
          cases h' <;> simp [rectA, h0, h6]
      | .inr _ => simp [rectA]
  show _ = (cLoc c ↦[Finset.univ]{fullShare} commG m ρ c : sProp 𝕄)
  rw [← cols_blocks c, pointsTo_biUnion _ _ fun x _ y _ hne => blocks_disjoint _ _ fun h => hne (blk_inj c x y h),
    bigSep_congr fun x _ => hb x, ← bigSep_univ_prod (fun z : (Bool × Fin 4) × (Fin 6 × Bool) => atomP m ρ c (.inl (z.1.1, z.1.2, z.2.1, z.2.2)))]
  unfold Pool
  rw [show (Finset.univ.filter fun a => commA a = true)
      = (Finset.univ : Finset ((Bool × Fin 4) × (Fin 6 × Bool))).map ⟨fun z => (.inl (z.1.1, z.1.2, z.2.1, z.2.2) : Atom), fun a b e => by
          obtain ⟨⟨a1, a2⟩, a3, a4⟩ := a; obtain ⟨⟨b1, b2⟩, b3, b4⟩ := b; cases e; rfl⟩ from ?_, bigSep_map]
  · rfl
  · ext a
    simp only [Finset.mem_filter, Finset.mem_univ, _root_.true_and, Finset.mem_map, Function.Embedding.coeFn_mk]
    match a with
    | .inl (p', r', pc, h') => simp [commA]
    | .inr _ => simp [commA]

end Cert.KernelIdealProof

end
-- ==== Proof.Steps.lean ====
/-
One step of a device at a time: what it holds along its program, and for each of its operations the rule that takes it from
one state of `Tables` to the next.
-/
module

public import proofs.«01_k».proof.Proof.Pieces

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What device `c`'s program must establish to end in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Views -/

abbrev cS (off sz : Fin 2 → ℕ) (inb : ∀ a, off a + sz a ≤ S256x32768.size a) : Memref sig .tc .vmem ⟨2, sz⟩ .bf16 :=
  cM.slice (Rect.unit (s := S256x32768) off sz inb) (fun _ => rfl)

theorem unit_cols {off sz : Fin 2 → ℕ} {inb : ∀ a, off a + sz a ≤ S256x32768.size a} {lo hi : ℕ} (ho : off = ![0, lo]) (hs : sz 0 = 256) (hh : lo + sz 1 = hi) :
    (Rect.unit (s := S256x32768) off sz inb).set = cols lo hi := by
  subst ho
  ext i
  rw [Rect.mem_set_unit]
  simp only [cols, Finset.mem_filter, Finset.mem_univ, true_and]
  constructor
  · intro h; have h1 := h 1; exact ⟨h1.1, hh ▸ h1.2⟩
  · rintro ⟨h1, h2⟩ a
    match a with
    | ⟨0, _⟩ => exact ⟨Nat.zero_le _, by show (i 0).val < 0 + sz 0; rw [hs]; have h0 : (i 0).val < 256 := (i 0).isLt; omega⟩
    | ⟨1, _⟩ => exact ⟨h1, by show (i 1).val < lo + sz 1; rw [hh]; exact h2⟩

theorem cS_set {off sz : Fin 2 → ℕ} {inb : ∀ a, off a + sz a ≤ S256x32768.size a} {lo hi : ℕ} (ho : off = ![0, lo]) (hs : sz 0 = 256) (hh : lo + sz 1 = hi) :
    (cS off sz inb).view.set = cols lo hi := by
  exact (View.set_slice_whole cc0_scratch0 (Rect.unit (s := S256x32768) off sz inb)).trans (unit_cols ho hs hh)

/-- A statistics row as the copies name it. -/
abbrev tS (k : ℕ) (inb : ∀ a, (![k, 0, 0] : Fin 3 → ℕ) a + S1x2x256.size a ≤ S8x2x256.size a) : Memref sig .tc .vmem S2x256 .f32 :=
  (tM.slice (Rect.unit (s := S8x2x256) ![k, 0, 0] S1x2x256.size inb) (fun _ => rfl)).squeeze S2x256 squeezes_S1x2x256_S2x256

theorem tS_set {k : ℕ} {inb : ∀ a, (![k, 0, 0] : Fin 3 → ℕ) a + S1x2x256.size a ≤ S8x2x256.size a} : (tS k inb).view.set = row k := by
  refine (View.set_reshape _ _).trans ((View.set_slice_whole cc0_scratch1 (Rect.unit (s := S8x2x256) ![k, 0, 0] S1x2x256.size inb)).trans ?_)
  ext i
  rw [Rect.mem_set_unit]
  simp only [row, Finset.mem_filter, Finset.mem_univ, true_and]
  constructor
  · intro h; obtain ⟨h1, h2⟩ := h 0
    have h1' : k ≤ (i 0).val := h1
    have h2' : (i 0).val < k + 1 := h2
    omega
  · rintro h a
    match a with
    | ⟨0, _⟩ => exact ⟨le_of_eq h.symm, by show (i 0).val < k + 1; omega⟩
    | ⟨1, _⟩ => exact ⟨Nat.zero_le _, by show (i 1).val < 0 + 2; have h0 : (i 1).val < 2 := (i 1).isLt; omega⟩
    | ⟨2, _⟩ => exact ⟨Nat.zero_le _, by show (i 2).val < 0 + 256; have h0 : (i 2).val < 256 := (i 2).isLt; omega⟩

theorem tS_emb {k : ℕ} {inb : ∀ a, (![k, 0, 0] : Fin 3 → ℕ) a + S1x2x256.size a ≤ S8x2x256.size a} (j : S2x256.Idx) (a : Fin 3) :
    (((tS k inb).view.emb j : S8x2x256.Idx) a).val = (![k, 0, 0] : Fin 3 → ℕ) a + (Shape.reshapeEquiv (s := S1x2x256) squeezes_S1x2x256_S2x256.numel_eq j a).val := by
  show (![k, 0, 0] : Fin 3 → ℕ) a + 1 * _ = _
  rw [Nat.one_mul]; rfl

theorem bk_zero : ∀ d : Fin 8, bk d 0 = d := by decide
theorem bk_dst : ∀ (i : Fin 29) (c : Fin 8) (h : i.val < 7), bk (dst i c) ⟨i.val + 1, by omega⟩ = c := by decide +kernel

/-- Row `0` of the sender's filled statistics, written to the receiver's row `i + 1`, is that row filled. -/
theorem stat_lands (i : Fin 29) (c : Dev nD) (h : i.val < 7) {k : ℕ} (hk : k = i.val + 1) {inb₀ inb₁} (fd : Buf (Elt F) (tLoc (dst i c))) :
    ∀ x ∈ row (i.val + 1), (tS k inb₁).view.write (Elt F) fd ((tS 0 inb₀).view.read (Elt F) (statG m ρ c)) Finset.univ x = statG m ρ (dst i c) x := by
  subst hk
  intro x hx
  rw [← tS_set (inb := inb₁)] at hx
  obtain ⟨j, _, rfl⟩ := Finset.mem_map.mp hx
  rw [View.write_emb_of_mem _ _ (Finset.mem_univ _), View.read_apply]
  show statG m ρ c ((tS 0 inb₀).view.emb j) = statG m ρ (dst i c) ((tS (i.val + 1) inb₁).view.emb j)
  have e0 : ∀ a, (((tS 0 inb₀).view.emb j : S8x2x256.Idx) a).val = _ := tS_emb j
  have e1 : ∀ a, (((tS (i.val + 1) inb₁).view.emb j : S8x2x256.Idx) a).val = _ := tS_emb j
  generalize (tS 0 inb₀).view.emb j = y at e0
  generalize (tS (i.val + 1) inb₁).view.emb j = z at e1
  have hj : (Shape.reshapeEquiv (s := S1x2x256) squeezes_S1x2x256_S2x256.numel_eq j 0).val < 1 := (Shape.reshapeEquiv (s := S1x2x256) squeezes_S1x2x256_S2x256.numel_eq j 0).isLt
  have h1 : (y : S8x2x256.Idx) 1 = (z : S8x2x256.Idx) 1 := Fin.ext ((e0 1).trans (e1 1).symm)
  have h2 : (y : S8x2x256.Idx) 2 = (z : S8x2x256.Idx) 2 := Fin.ext ((e0 2).trans (e1 2).symm)
  have hy : (y : S8x2x256.Idx) 0 = (0 : Fin 8) := Fin.ext (by rw [e0 0]; show 0 + _ = 0; omega)
  have hz : (z : S8x2x256.Idx) 0 = (⟨i.val + 1, by omega⟩ : Fin 8) := Fin.ext (by rw [e1 0]; show (i.val + 1) + _ = i.val + 1; omega)
  unfold statG
  dsimp only
  rw [h1, h2, hy, hz, bk_zero, bk_dst i c h]

/-! ## What a device holds along its program -/

/-- The send side of copy `i`: closed; or started and not yet waited for; or still to be started. -/
def SendSt (c : Dev nD) (s : St) (i : Fin 29) : sProp 𝕄 :=
  if s.ws i = true then semVal (sendCell i c) 0
  else if i.val < s.n then iprop(atPos ER (sendCell i c) 0 ∅ 0 ∗ cred (tallyAt (sendCell i c) () (Ncr i)))
  else iprop(atPos ER (sendCell i c) 0 ∅ 0 ∗ dutyTok ER (sendCell i c) 0 (0 : Fin 8) ∗ dutyTok ER (recvCell i (dst i c)) 0 (0 : Fin 8) ∗ raw i (dst i c))

/-- The receive side of copy `i`: closed, or still to be waited for. -/
def RecvSt (c : Dev nD) (s : St) (i : Fin 29) : sProp 𝕄 :=
  if s.wr i = true then semVal (recvCell i c) 0
  else iprop(atPos ER (recvCell i c) 0 ∅ 0 ∗ cred (tallyAt (recvCell i c) () (Ncr i)))

/-- The result's staging buffer, block by block. -/
def Out (c : Dev nD) (o : Bool → Fin 4 → Fin 3) : sProp 𝕄 :=
  iprop(∃ f : Buf (Elt F) (oLoc c), ⌜∀ (p : Bool) (r : Fin 4) (x : S256x32768.Idx), bkIx x = blk c p r →
    (o p r = 1 → f x = outE m ρ c x) ∧ (o p r = 2 → f x = outG m ρ c x)⌝ ∗ oLoc c ↦{fullShare} f)

/-- The invariants of all cells, each at its first round. -/
def recs (K : Dev nD × CI → ℕ) : sProp 𝕄 :=
  bigSep Finset.univ fun ck : Dev nD × CI => iprop(cellInv ER (Rd m ρ) (K ck) (kcell ck) ∗ reached ER (kcell ck) 0)

instance recs_persistent (K : Dev nD × CI → ℕ) : BI.Persistent (recs (F := F) m ρ K) := by unfold recs; infer_instance

theorem recs_at (K : Dev nD × CI → ℕ) (ck : Dev nD × CI) :
    recs m ρ K ⊢ iprop(cellInv ER (Rd m ρ) (K ck) (kcell ck) ∗ reached ER (kcell ck) 0) :=
  bigSep_elim (Finset.mem_univ ck)

/-- Everything device `c` holds in the state `s`. -/
def Hold (K : Dev nD × CI → ℕ) (c : Dev nD) (s : St) : sProp 𝕄 :=
  iprop(recs m ρ K ∗ levAts L lv ∗ bigSep Finset.univ (SendSt (F := F) c s) ∗ bigSep Finset.univ (RecvSt (F := F) c s)
    ∗ (∃ W, owes (c : Thread nD τ) (Ow c (7 + s.n)) W) ∗ Pool m ρ c s.held ∗ Out m ρ c s.out)

/-- A family that changes at one index only. -/
theorem bigSep_change {Φ Ψ : Fin 29 → sProp 𝕄} (i : Fin 29) (h : ∀ j, j ≠ i → Φ j = Ψ j) :
    bigSep Finset.univ Φ = iprop(Φ i ∗ bigSep (Finset.univ.erase i) Ψ) := by
  rw [bigSep_univ_at Φ i, bigSep_congr fun j hj => h j (Finset.ne_of_mem_erase hj)]

/-! ## Starting a copy -/

/-- Any copy, given what it reads and what it makes of the place it fills. -/
theorem send_any (K : Dev nD × CI → ℕ) (c n : Dev nD) (s : St) (i : Fin 29) (hn : s.n = i.val) (hws : s.ws i = false)
    (hsrc : ∀ a, src i a = true → s.held a = true) (hdev : n = dst i c) {sS sR : DmaSem sig} (hS : sS = dS (sendN i)) (hR : sR = dS (recvN i))
    {S : Shape} {e : EltTy} {sm : Memref sig .tc .vmem S e} {dm : Memref sig (Dev.tc n : Thread nD τ).2.kind .vmem S e} {hsc : dm.view.ref.isScScratch = false}
    {hsw : sm.view.WordExact} {hdw : dm.view.WordExact} {hsem : DmaTarget.Typed .vmem (.dma sR) (.remote (Dev.tc n : Thread nD τ) dm (.dma sS) hsc)}
    {q : PosShare TreeShare} {fs : Buf (Elt F) (sm.view.loc (c : Thread nD τ))} (hN : dm.view.dmaCredit = Ncr i)
    (hp₁ : Pool m ρ c (src i) = (sm.view.loc (c : Thread nD τ) ↦[sm.view.set]{q} fs : sProp 𝕄))
    (hraw : raw i n ⊢ iprop(∃ fd, dm.view.loc (n : Thread nD τ) ↦[dm.view.set]{fullShare} fd : sProp 𝕄))
    (hp₂ : ∀ fd, (dm.view.loc (n : Thread nD τ) ↦[dm.view.set]{fullShare} (dm.view.write (Elt F) fd (sm.view.read (Elt F) fs) Finset.univ) : sProp 𝕄) ⊢ Pool m ρ n (lnd i))
    {α : Type} {Q : α → sProp 𝕄} {kk : PUnit → Prog (TpuEff nD τ sig (Elt F) Λ₀ .tc) α} :
    Hold m ρ K c s ⊢ iprop((Hold m ρ K c (s.snd i) -∗ WP c (kk ⟨⟩) Q)
      -∗ WP c (.op (.enqueueDma sm (.remote (Dev.tc n : Thread nD τ) dm (.dma sS) hsc) (.dma sR) hsw hdw hsem) kk) Q) := by
  subst hdev hS hR
  have hlt : ¬ i.val < s.n := by omega
  unfold Hold
  rw [bigSep_change (F := F) (Φ := SendSt c s) (Ψ := SendSt c (s.snd i)) i (fun j hj => by
      have : j.val ≠ i.val := fun h => hj (Fin.ext h)
      have e : (j.val < s.n) = (j.val < (s.snd i).n) := by show _ = (j.val < i.val + 1); rw [hn]; exact propext ⟨fun _ => by omega, fun _ => by omega⟩
      unfold SendSt
      simp only [e]; rfl),
    bigSep_change (F := F) (Φ := SendSt c (s.snd i)) (Ψ := SendSt c (s.snd i)) i (fun _ _ => rfl),
    show SendSt (F := F) c s i = _ from (if_neg (by rw [hws]; decide)).trans (if_neg hlt),
    show SendSt (F := F) c (s.snd i) i = _ from (if_neg (by show ¬ s.ws i = true; rw [hws]; decide)).trans (if_pos (by show i.val < i.val + 1; omega)),
    Pool_take m ρ c s.held (src i) hsrc, hp₁, hn,
    show Ow c (7 + i.val) = Ow c (7 + (i.val + 1)) + tallyAt (recvCell i (dst i c)) () (Ncr i) from by
      have h := Ow_succ c ⟨7 + i.val, by omega⟩
      have e1 : oc c ⟨7 + i.val, by omega⟩ = recvCell i (dst i c) := by
        unfold oc; rw [dif_neg (by show ¬ 7 + i.val < 7; omega)]
        have : (⟨7 + i.val - 7, by omega⟩ : Fin 29) = i := Fin.ext (by show 7 + i.val - 7 = _; omega)
        show recvCell ⟨7 + i.val - 7, _⟩ (dst ⟨7 + i.val - 7, _⟩ c) = _
        rw [this]
      have e2 : on ⟨7 + i.val, by omega⟩ = Ncr i := by
        unfold on; rw [dif_neg (by show ¬ 7 + i.val < 7; omega)]
        have : (⟨7 + i.val - 7, by omega⟩ : Fin 29) = i := Fin.ext (by show 7 + i.val - 7 = _; omega)
        show Ncr ⟨7 + i.val - 7, _⟩ = _
        rw [this]
      rw [e1, e2] at h
      exact h]
  iintro ⟨#Hrec, #Hlev, ⟨⟨Hat, Ht1, Ht2, Hraw⟩, Hsnd⟩, Hrcv, ⟨%W, HO⟩, ⟨Hsrc, Hpool⟩, Hout⟩ HK
  ihave Hr1 := (recs_at m ρ K (c, some (true, i))) $$ Hrec
  ihave Hr2 := (recs_at m ρ K (dst i c, some (false, i))) $$ Hrec
  icases Hr1 with ⟨#Hi1, #Hm1⟩
  icases Hr2 with ⟨#Hi2, #Hm2⟩
  ihave Hd := hraw $$ Hraw
  icases Hd with ⟨%fd, Hd⟩
  iapply (Rounds.wp_send_pointsTo 𝒱₀ ER (Rd m ρ) (c : Thread nD τ) none (κ₁ := K (c, some (true, i))) (κ₂ := K (dst i c, some (false, i)))
    (r₁ := 0) (r₂ := 0) (d₁ := (0 : Fin 8)) (d₂ := (0 : Fin 8)) (fd := fd)
    (by rw [duties_send]; exact Finset.mem_singleton_self _) (by rw [duties_recv]; exact Finset.mem_singleton_self _)
    () () (Ncr i) ((View.amount_dma _ _).trans hN) (amount_send m ρ c i 0) (amount_recv m ρ (dst i c) i 0) (Ow c (7 + (i.val + 1))) rfl (W := W)
    (by rw [payload_send]; rw [hp₁])
    (by rw [payload_recv]; exact hp₂ fd)) $$ [Hsrc Hd HO Ht1 Ht2]
  · isplitr; · iexact Hi1
    isplitr; · iexact Hi2
    isplitl [Hsrc]; · iexact Hsrc
    isplitl [Hd]; · iexact Hd
    isplitl [HO]; · iexact HO
    isplitl [Ht1]; · iexact Ht1
    isplitr; · iexact Hm1
    isplitl [Ht2]; · iexact Ht2
    iexact Hm2
  iintro ⟨Hc, HO⟩
  iapply HK
  isplitr; · iexact Hrec
  isplitr; · iexact Hlev
  isplitl [Hat Hc Hsnd]
  · isplitl [Hat Hc]
    · isplitl [Hat] <;> iassumption
    iexact Hsnd
  isplitl [Hrcv]; · iexact Hrcv
  isplitl [HO]; · iexists W; iexact HO
  isplitl [Hpool]; · iexact Hpool
  iexact Hout

/-- A block copy. -/
theorem send_comm (K : Dev nD × CI → ℕ) (c n : Dev nD) (s : St) (i : Fin 29) (h7 : 7 ≤ i.val) (hn : s.n = i.val) (hws : s.ws i = false)
    (hsrc : ∀ a, src i a = true → s.held a = true) (hdev : n = dst i c) {sS sR : DmaSem sig} (hS : sS = dS (sendN i)) (hR : sR = dS (recvN i))
    {off sz : Fin 2 → ℕ} {inb : ∀ a, off a + sz a ≤ S256x32768.size a}
    (ho : off = ![0, 4096 * (blk c (cp i).p (cp i).r).val + bd (cp i).lo]) (hz : sz 0 = 256) (hw : bd (cp i).lo + sz 1 = bd (cp i).hi)
    (hN : (cS off sz inb).view.dmaCredit = Ncr i)
    {hsc : (cS off sz inb).view.ref.isScScratch = false} {hsw hdw : (cS off sz inb).view.WordExact}
    {hsem : DmaTarget.Typed .vmem (.dma sR) (.remote (Dev.tc n : Thread nD τ) (cS off sz inb) (.dma sS) hsc)}
    {α : Type} {Q : α → sProp 𝕄} {kk : PUnit → Prog (TpuEff nD τ sig (Elt F) Λ₀ .tc) α} :
    Hold m ρ K c s ⊢ iprop((Hold m ρ K c (s.snd i) -∗ WP c (kk ⟨⟩) Q)
      -∗ WP c (.op (.enqueueDma (cS off sz inb) (.remote (Dev.tc n : Thread nD τ) (cS off sz inb) (.dma sS) hsc) (.dma sR) hsw hdw hsem) kk) Q) := by
  subst hdev
  have hset := cS_set (inb := inb) ho hz (hi := 4096 * (blk c (cp i).p (cp i).r).val + bd (cp i).hi) (by omega)
  have hb := blk_dst i c h7
  refine send_any m ρ K c (dst i c) s i hn hws hsrc rfl hS hR (q := shq (cp i).sh) (fs := commG m ρ c) hN ?_ ?_ ?_
  · rw [Pool_src m ρ c i h7, hset]
  · rw [hset]; unfold raw; rw [if_neg (by omega), hb]
  · intro fd
    rw [Pool_lnd m ρ _ i h7, hb, hset]
    refine Entails.of_eq (pointsTo_congr fun x hx => ?_)
    rw [View.write_read_eq_piecewise (v := (cS off sz inb).view) fd (commG m ρ c), Finset.piecewise_eq_of_mem _ _ _ (by rw [View.setOn_univ, hset]; exact hx)]
    rfl

/-- A statistics copy. -/
theorem send_stat (K : Dev nD × CI → ℕ) (c n : Dev nD) (s : St) (i : Fin 29) (h7 : i.val < 7) (hn : s.n = i.val) (hws : s.ws i = false)
    (hsrc : ∀ a, src i a = true → s.held a = true) (hdev : n = dst i c) {sS sR : DmaSem sig} (hS : sS = dS (sendN i)) (hR : sR = dS (recvN i))
    {k : ℕ} (hk : k = i.val + 1) {inb₀ inb₁} {hsc : (tS k inb₁).view.ref.isScScratch = false} {hsw : (tS 0 inb₀).view.WordExact} {hdw : (tS k inb₁).view.WordExact}
    {hsem : DmaTarget.Typed .vmem (.dma sR) (.remote (Dev.tc n : Thread nD τ) (tS k inb₁) (.dma sS) hsc)}
    {α : Type} {Q : α → sProp 𝕄} {kk : PUnit → Prog (TpuEff nD τ sig (Elt F) Λ₀ .tc) α} :
    Hold m ρ K c s ⊢ iprop((Hold m ρ K c (s.snd i) -∗ WP c (kk ⟨⟩) Q)
      -∗ WP c (.op (.enqueueDma (tS 0 inb₀) (.remote (Dev.tc n : Thread nD τ) (tS k inb₁) (.dma sS) hsc) (.dma sR) hsw hdw hsem) kk) Q) := by
  subst hdev hk
  refine send_any m ρ K c (dst i c) s i hn hws hsrc rfl hS hR (q := ShareLeaves.leaf 3 fullShare ⟨i.val, by omega⟩) (fs := statG m ρ c) ?_ ?_ ?_ ?_
  · unfold Ncr; rw [if_pos h7]
  · rw [Pool_srcT m ρ c i h7, tS_set]
  · rw [tS_set]; unfold raw; rw [if_pos h7]
  · intro fd
    rw [Pool_lndT m ρ _ i h7, tS_set]
    exact Entails.of_eq (pointsTo_congr (stat_lands m ρ i c h7 rfl fd))

/-! ## Waiting -/

theorem wait_send (K : Dev nD × CI → ℕ) (c : Dev nD) (s : St) (i : Fin 29) (hlt : i.val < s.n) (hws : s.ws i = false)
    (hd : ∀ a, s.held a = true → src i a = false) {sem : DmaSem sig} (hS : sem = dS (sendN i))
    {sp sp' : Space} {S S' : Shape} {e e' : EltTy} {a : Memref sig .tc sp' S' e'} {κ' : Kind} {b : Memref sig κ' sp S e}
    {ha : a.view.WordExact} {hb : b.view.WordExact} (hN : b.view.dmaCredit = Ncr i)
    {α : Type} {Q : α → sProp 𝕄} {kk : PUnit → Prog (TpuEff nD τ sig (Elt F) Λ₀ .tc) α} :
    Hold m ρ K c s ⊢ iprop((Hold m ρ K c (s.wS i) -∗ WP c (kk ⟨⟩) Q) -∗ WP c (.op (.waitDma2 sem a b ha hb) kk) Q) := by
  subst hS
  unfold Hold
  rw [bigSep_change (F := F) (Φ := SendSt c s) (Ψ := SendSt c (s.wS i)) i (fun j hj => by
      unfold SendSt
      have e : (s.wS i).ws j = s.ws j := by show (s.ws j || j == i) = s.ws j; rw [beq_false_of_ne hj, Bool.or_false]
      rw [e]; rfl),
    bigSep_change (F := F) (Φ := SendSt c (s.wS i)) (Ψ := SendSt c (s.wS i)) i (fun _ _ => rfl),
    show SendSt (F := F) c s i = _ from (if_neg (by rw [hws]; decide)).trans (if_pos hlt),
    show SendSt (F := F) c (s.wS i) i = _ from if_pos (by show (s.ws i || i == i) = true; simp),
    show (s.wS i).held = fun a => s.held a || src i a from rfl, Pool_or m ρ c s.held (src i) hd]
  iintro ⟨#Hrec, #Hlev, ⟨⟨Hat, Hc⟩, Hsnd⟩, Hrcv, ⟨%W, HO⟩, Hpool, Hout⟩ HK
  ihave Hr1 := (recs_at m ρ K (c, some (true, i))) $$ Hrec
  icases Hr1 with ⟨#Hi1, #Hm1⟩
  iapply (Rounds.wp_wait_rest_token 𝒱₀ ER (Rd m ρ) (c : Thread nD τ) none (κ := K (c, some (true, i)))
      (wpE_waitDma2_eq 𝒱₀ (c : Thread nD τ) none Set.univ) (Set.mem_univ _) () (O := Ow c (7 + s.n)) (W := W) (R := 0) (m := 0) (T := ∅)
      (by rw [Nat.zero_add, expect_send]; exact hN)) $$ [Hc HO Hat]
  · isplitr; · iexact Hi1
    isplitl [Hc]; · rw [hN]; iexact Hc
    isplitl [HO]; · iexact HO
    isplitr
    · iapply (mayWait_lt c _ (7 + s.n) fun t ht => by
        rw [lv_send]; split <;> omega)
      iexact Hlev
    iexact Hat
  iintro ⟨HO, Hat, -, Hpay⟩
  ihave Hp := (Entails.of_eq (rest_send m ρ c i)) $$ Hpay
  imod (Rounds.cell_close ER (Rd m ρ) (Set.mem_univ (K (c, some (true, i)))) (fun h => h) (R := 0 + 1) (duties_later m ρ (sendCell i c))) $$ [Hat] with Hz
  · isplitr; · iexact Hi1
    iexact Hat
  iapply HK
  isplitr; · iexact Hrec
  isplitr; · iexact Hlev
  isplitl [Hz Hsnd]; · isplitl [Hz] <;> iassumption
  isplitl [Hrcv]; · iexact Hrcv
  isplitl [HO]; · iexists _; iexact HO
  isplitl [Hpool Hp]; · isplitl [Hpool] <;> iassumption
  iexact Hout

theorem wait_recv (K : Dev nD × CI → ℕ) (c : Dev nD) (s : St) (i : Fin 29) (hlt : i.val < s.n) (hwr : s.wr i = false)
    (hd : ∀ a, s.held a = true → lnd i a = false) {sem : DmaSem sig} (hS : sem = dS (recvN i))
    {sp sp' : Space} {S S' : Shape} {e e' : EltTy} {a : Memref sig .tc sp' S' e'} {κ' : Kind} {b : Memref sig κ' sp S e}
    {ha : a.view.WordExact} {hb : b.view.WordExact} (hN : b.view.dmaCredit = Ncr i)
    {α : Type} {Q : α → sProp 𝕄} {kk : PUnit → Prog (TpuEff nD τ sig (Elt F) Λ₀ .tc) α} :
    Hold m ρ K c s ⊢ iprop((Hold m ρ K c (s.wR i) -∗ WP c (kk ⟨⟩) Q) -∗ WP c (.op (.waitDma2 sem a b ha hb) kk) Q) := by
  subst hS
  unfold Hold
  rw [bigSep_change (F := F) (Φ := RecvSt c s) (Ψ := RecvSt c (s.wR i)) i (fun j hj => by
      unfold RecvSt
      have e : (s.wR i).wr j = s.wr j := by show (s.wr j || j == i) = s.wr j; rw [beq_false_of_ne hj, Bool.or_false]
      rw [e]),
    bigSep_change (F := F) (Φ := RecvSt c (s.wR i)) (Ψ := RecvSt c (s.wR i)) i (fun _ _ => rfl),
    show RecvSt (F := F) c s i = _ from if_neg (by rw [hwr]; decide),
    show RecvSt (F := F) c (s.wR i) i = _ from if_pos (by show (s.wr i || i == i) = true; simp),
    show (s.wR i).held = fun a => s.held a || lnd i a from rfl, Pool_or m ρ c s.held (lnd i) hd]
  iintro ⟨#Hrec, #Hlev, Hsnd, ⟨⟨Hat, Hc⟩, Hrcv⟩, ⟨%W, HO⟩, Hpool, Hout⟩ HK
  ihave Hr1 := (recs_at m ρ K (c, some (false, i))) $$ Hrec
  icases Hr1 with ⟨#Hi1, #Hm1⟩
  iapply (Rounds.wp_wait_rest_token 𝒱₀ ER (Rd m ρ) (c : Thread nD τ) none (κ := K (c, some (false, i)))
      (wpE_waitDma2_eq 𝒱₀ (c : Thread nD τ) none Set.univ) (Set.mem_univ _) () (O := Ow c (7 + s.n)) (W := W) (R := 0) (m := 0) (T := ∅)
      (by rw [Nat.zero_add, expect_recv]; exact hN)) $$ [Hc HO Hat]
  · isplitr; · iexact Hi1
    isplitl [Hc]; · rw [hN]; iexact Hc
    isplitl [HO]; · iexact HO
    isplitr
    · iapply (mayWait_lt c _ (7 + s.n) fun t ht => by
        rw [lv_recv]; split <;> omega)
      iexact Hlev
    iexact Hat
  iintro ⟨HO, Hat, -, Hpay⟩
  ihave Hp := (Entails.of_eq (rest_recv m ρ c i)) $$ Hpay
  imod (Rounds.cell_close ER (Rd m ρ) (Set.mem_univ (K (c, some (false, i)))) (fun h => h) (R := 0 + 1) (duties_later m ρ (recvCell i c))) $$ [Hat] with Hz
  · isplitr; · iexact Hi1
    iexact Hat
  iapply HK
  isplitr; · iexact Hrec
  isplitr; · iexact Hlev
  isplitl [Hsnd]; · iexact Hsnd
  isplitl [Hz Hrcv]; · isplitl [Hz] <;> iassumption
  isplitl [HO]; · iexists _; iexact HO
  isplitl [Hpool Hp]; · isplitl [Hpool] <;> iassumption
  iexact Hout

end Cert.KernelIdealProof

end
-- ==== Proof.Local.lean ====
/-
A device's own loads and stores, each as the rule that takes it from one state to the next.
-/
module

public import proofs.«01_k».proof.Proof.Steps

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A block of columns -/

abbrev bR (off : Fin 2 → ℕ) (inb : ∀ a, off a + S256x4096.size a ≤ S256x32768.size a) : Rect S256x32768 := Rect.unit (s := S256x32768) off S256x4096.size inb

theorem bR_emb {off : Fin 2 → ℕ} {inb : ∀ a, off a + S256x4096.size a ≤ S256x32768.size a} {b : Fin 8} (ho : off = ![0, 4096 * b.val]) (j : S256x4096.Idx) :
    bkIx ((bR off inb).emb j) = b ∧ inIx ((bR off inb).emb j) = j := by
  subst ho
  have h0 : (((bR ![0, 4096 * b.val] inb).emb j : S256x32768.Idx) 0).val = (j 0).val := by show 0 + 1 * (j 0).val = _; omega
  have h1 : (((bR ![0, 4096 * b.val] inb).emb j : S256x32768.Idx) 1).val = 4096 * b.val + (j 1).val := by show 4096 * b.val + 1 * (j 1).val = _; omega
  have hj : (j 1).val < 4096 := (j 1).isLt
  refine ⟨Fin.ext ?_, funext fun a => ?_⟩
  · show (((bR ![0, 4096 * b.val] inb).emb j : S256x32768.Idx) 1).val / 4096 = b.val
    rw [h1]; omega
  · match a with
    | ⟨0, _⟩ => exact Fin.ext h0
    | ⟨1, _⟩ => exact Fin.ext (by show (((bR ![0, 4096 * b.val] inb).emb j : S256x32768.Idx) 1).val % 4096 = (j 1).val; rw [h1]; omega)

theorem bR_inIx {off : Fin 2 → ℕ} {inb : ∀ a, off a + S256x4096.size a ≤ S256x32768.size a} {b : Fin 8} (ho : off = ![0, 4096 * b.val])
    (x : S256x32768.Idx) (hx : bkIx x = b) : (bR off inb).emb (inIx x) = x := by
  subst ho
  have hb : (x 1).val / 4096 = b.val := congrArg Fin.val hx
  funext a
  match a with
  | ⟨0, _⟩ => exact Fin.ext (by show 0 + 1 * (x 0).val = (x 0).val; omega)
  | ⟨1, _⟩ => exact Fin.ext (by show 4096 * b.val + 1 * ((x 1).val % 4096) = (x 1).val; rw [← hb]; omega)

theorem bR_set {off : Fin 2 → ℕ} {inb : ∀ a, off a + S256x4096.size a ≤ S256x32768.size a} {b : Fin 8} (ho : off = ![0, 4096 * b.val]) :
    (bR off inb).set = cols (4096 * b.val) (4096 * b.val + 4096) := unit_cols ho rfl rfl

theorem mem_block (x : S256x32768.Idx) (b : Fin 8) : x ∈ cols (4096 * b.val) (4096 * b.val + 4096) ↔ bkIx x = b := by
  simp only [cols, Finset.mem_filter, Finset.mem_univ, true_and, Fin.ext_iff, bkIx]
  omega

/-! ## Loads of the exchange buffers -/

theorem load_comm (K : Dev nD × CI → ℕ) (c : Dev nD) (s : St) (p : Bool) (r : Fin 4) (hh : ∀ a, blkA p r a = true → s.held a = true)
    {off : Fin 2 → ℕ} {inb : ∀ a, off a + S256x4096.size a ≤ S256x32768.size a} (ho : off = ![0, 4096 * (blk c p r).val])
    {hl : cM.view.LoadsAt (bR off inb).toLoadRect} {α : Type} {Q : α → sProp 𝕄} {kk : Vec F S256x4096 .bf16 → Prog (TpuEff nD τ sig (Elt F) Λ₀ .tc) α} :
    Hold m ρ K c s ⊢ iprop((Hold m ρ K c s -∗ WP c (kk (blkV m ρ (blk c p r))) Q)
      -∗ WP c (.op (.load cM (bR off inb).toLoadRect hl) kk) Q) := by
  have hv : cM.view.readAt (Elt F) (bR off inb).toLoadRect (commG m ρ c) = blkV m ρ (blk c p r) := by
    funext j
    show commG m ρ c ((bR off inb).emb j) = _
    obtain ⟨h1, h2⟩ := bR_emb (inb := inb) ho j
    show blkV m ρ (bkIx ((bR off inb).emb j)) (inIx ((bR off inb).emb j)) = _
    rw [h1, h2]
  unfold Hold
  rw [Pool_take m ρ c s.held (blkA p r) hh, Pool_blk]
  iintro ⟨#Hrec, #Hlev, Hsnd, Hrcv, HO, ⟨Hb, Hpool⟩, Hout⟩ HK
  iapply (wp_load 𝒱₀ (c : Thread nD τ) none Set.univ (m := cM) (r := (bR off inb).toLoadRect)
    (by show (bR off inb).set.map (Function.Embedding.refl _) ⊆ _; rw [Finset.map_refl, bR_set ho])) $$ Hb
  iintro Hb
  rw [hv]
  iapply HK
  isplitr; · iexact Hrec
  isplitr; · iexact Hlev
  isplitl [Hsnd]; · iexact Hsnd
  isplitl [Hrcv]; · iexact Hrcv
  isplitl [HO]; · iexact HO
  isplitl [Hb Hpool]; · isplitl [Hb] <;> iassumption
  iexact Hout

theorem load_stat (K : Dev nD × CI → ℕ) (c : Dev nD) (s : St) (hh : ∀ a, rowsA a = true → s.held a = true)
    {r : LoadRect S8x2x256} {hl : tM.view.LoadsAt r} {α : Type} {Q : α → sProp 𝕄} {kk : Vec F r.shape .f32 → Prog (TpuEff nD τ sig (Elt F) Λ₀ .tc) α} :
    Hold m ρ K c s ⊢ iprop((Hold m ρ K c s -∗ WP c (kk (tM.view.readAt (Elt F) r (statG m ρ c))) Q)
      -∗ WP c (.op (.load tM r hl) kk) Q) := by
  unfold Hold
  rw [Pool_take m ρ c s.held rowsA hh, Pool_rows]
  iintro ⟨#Hrec, #Hlev, Hsnd, Hrcv, HO, ⟨Hb, Hpool⟩, Hout⟩ HK
  iapply (wp_load 𝒱₀ (c : Thread nD τ) none Set.univ (m := tM) (r := r) (Finset.subset_univ _)) $$ Hb
  iintro Hb
  iapply HK
  isplitr; · iexact Hrec
  isplitr; · iexact Hlev
  isplitl [Hsnd]; · iexact Hsnd
  isplitl [Hrcv]; · iexact Hrcv
  isplitl [HO]; · iexact HO
  isplitl [Hb Hpool]; · isplitl [Hb] <;> iassumption
  iexact Hout

/-! ## The result's buffer -/

/-- Loading a block whatever it holds. -/
theorem load_out (K : Dev nD × CI → ℕ) (c : Dev nD) (s : St)
    {r : LoadRect S256x32768} {hl : oM.view.LoadsAt r} {α : Type} {Q : α → sProp 𝕄} {kk : Vec F r.shape .f32 → Prog (TpuEff nD τ sig (Elt F) Λ₀ .tc) α} :
    Hold m ρ K c s ⊢ iprop((∀ v, Hold m ρ K c s -∗ WP c (kk v) Q) -∗ WP c (.op (.load oM r hl) kk) Q) := by
  unfold Hold Out
  iintro ⟨#Hrec, #Hlev, Hsnd, Hrcv, HO, Hpool, ⟨%f, %hf, Hout⟩⟩ HK
  iapply (wp_load 𝒱₀ (c : Thread nD τ) none Set.univ (m := oM) (r := r) (Finset.subset_univ _)) $$ Hout
  iintro Hout
  iapply HK
  isplitr; · iexact Hrec
  isplitr; · iexact Hlev
  isplitl [Hsnd]; · iexact Hsnd
  isplitl [Hrcv]; · iexact Hrcv
  isplitl [HO]; · iexact HO
  isplitl [Hpool]; · iexact Hpool
  iexists f
  isplitr; · ipureintro; exact hf
  iexact Hout

/-- Loading the exponentials back. -/
theorem load_exp (K : Dev nD × CI → ℕ) (c : Dev nD) (s : St) (p : Bool) (r : Fin 4) (hs : s.out p r = 1)
    {off : Fin 2 → ℕ} {inb : ∀ a, off a + S256x4096.size a ≤ S256x32768.size a} (ho : off = ![0, 4096 * (blk c p r).val])
    {hl : oM.view.LoadsAt (bR off inb).toLoadRect} {α : Type} {Q : α → sProp 𝕄} {kk : Vec F S256x4096 .f32 → Prog (TpuEff nD τ sig (Elt F) Λ₀ .tc) α} :
    Hold m ρ K c s ⊢ iprop((Hold m ρ K c s -∗ WP c (kk (eL m ρ c)) Q) -∗ WP c (.op (.load oM (bR off inb).toLoadRect hl) kk) Q) := by
  unfold Hold Out
  iintro ⟨#Hrec, #Hlev, Hsnd, Hrcv, HO, Hpool, ⟨%f, %hf, Hout⟩⟩ HK
  have hv : oM.view.readAt (Elt F) (bR off inb).toLoadRect f = eL m ρ c := by
    funext j
    show f ((bR off inb).emb j) = _
    obtain ⟨h1, h2⟩ := bR_emb (inb := inb) ho j
    rw [(hf p r _ h1).1 hs]
    show eL m ρ c (inIx ((bR off inb).emb j)) = _
    rw [h2]
  iapply (wp_load 𝒱₀ (c : Thread nD τ) none Set.univ (m := oM) (r := (bR off inb).toLoadRect) (Finset.subset_univ _)) $$ Hout
  iintro Hout
  rw [hv]
  iapply HK
  isplitr; · iexact Hrec
  isplitr; · iexact Hlev
  isplitl [Hsnd]; · iexact Hsnd
  isplitl [Hrcv]; · iexact Hrcv
  isplitl [HO]; · iexact HO
  isplitl [Hpool]; · iexact Hpool
  iexists f
  isplitr; · ipureintro; exact hf
  iexact Hout

/-- Storing a block. -/
theorem store_out (K : Dev nD × CI → ℕ) (c : Dev nD) (s : St) (p : Bool) (r : Fin 4) (v : Fin 3) {w : FVec F S256x4096 .f32}
    (h1 : v = 1 → w = eL m ρ c) (h2 : v = 2 → w = k0_pay1 (blkV m ρ (blk c p r)))
    {off : Fin 2 → ℕ} {inb : ∀ a, off a + S256x4096.size a ≤ S256x32768.size a} (ho : off = ![0, 4096 * (blk c p r).val])
    {hx : (oM.access (bR off inb)).Stores Finset.univ} {hm : (Finset.univ : Finset (bR off inb).shape.Idx) = Finset.univ ∨ ∀ a, (bR off inb).stride a = 1}
    {α : Type} {Q : α → sProp 𝕄} {kk : PUnit → Prog (TpuEff nD τ sig (Elt F) Λ₀ .tc) α} :
    Hold m ρ K c s ⊢ iprop((Hold m ρ K c (s.put p r v) -∗ WP c (kk ⟨⟩) Q) -∗ WP c (.op (.store oM (bR off inb) w Finset.univ hx hm) kk) Q) := by
  unfold Hold Out
  iintro ⟨#Hrec, #Hlev, Hsnd, Hrcv, HO, Hpool, ⟨%f, %hf, Hout⟩⟩ HK
  iapply (wp_store 𝒱₀ (c : Thread nD τ) none Set.univ (m := oM) (r := bR off inb) (Mk := Finset.univ) (Finset.subset_univ _)) $$ Hout
  iintro Hout
  iapply HK
  isplitr; · iexact Hrec
  isplitr; · iexact Hlev
  isplitl [Hsnd]; · iexact Hsnd
  isplitl [Hrcv]; · iexact Hrcv
  isplitl [HO]; · iexact HO
  isplitl [Hpool]; · iexact Hpool
  iexists ((oM.access (bR off inb)).write (Elt F) f w Finset.univ)
  isplitr
  · ipureintro
    intro p' r' x hxb
    by_cases hpr : p' = p ∧ r' = r
    · obtain ⟨rfl, rfl⟩ := hpr
      have hw : (oM.access (bR off inb)).write (Elt F) f w Finset.univ x = w (inIx x) := by
        have e := View.write_emb_of_mem (v := (oM.access (bR off inb))) (Val := Elt F) f w (Finset.mem_univ (inIx x))
        have e' : (oM.access (bR off inb)).emb (inIx x) = x := bR_inIx ho x hxb
        rw [e'] at e
        exact e
      rw [hw]
      have ho' : (s.put p' r' v).out p' r' = v := if_pos ⟨rfl, rfl⟩
      rw [ho']
      refine ⟨fun h => by rw [h1 h]; rfl, fun h => ?_⟩
      rw [h2 h, ← hxb]; rfl
    · have hw : (oM.access (bR off inb)).write (Elt F) f w Finset.univ x = f x := by
        refine View.write_of_not_mem _ _ _ fun hmem => hpr ?_
        have hs : (oM.access (bR off inb)).setOn Finset.univ = cols (4096 * (blk c p r).val) (4096 * (blk c p r).val + 4096) :=
          (View.set_slice_whole cc0_stg2_0 (bR off inb)).trans (bR_set ho)
        rw [hs] at hmem
        have := (mem_block x _).mp hmem
        have e := blk_inj c (p', r') (p, r) (hxb.symm.trans this)
        exact ⟨congrArg Prod.fst e, congrArg Prod.snd e⟩
      rw [hw]
      have ho' : (s.put p r v).out p' r' = s.out p' r' := if_neg hpr
      rw [ho']
      exact hf p' r' x hxb
  iexact Hout

/-! ## The device's own block -/

/-- The own block of the block buffer, before it is stored. -/
def ownR (c : Dev nD) : sProp 𝕄 := iprop(∃ f : Buf (Elt F) (cLoc c), cLoc c ↦[cols (4096 * c.val) (4096 * c.val + 4096)]{fullShare} f)

theorem blk_own : ∀ c : Fin 8, blk c false 0 = c := by decide

omit [FloatOps F] in
theorem load_own (c : Dev nD) {off : Fin 2 → ℕ} {inb : ∀ a, off a + S256x4096.size a ≤ S256x32768.size a} (ho : off = ![0, 4096 * c.val])
    {hl : cM.view.LoadsAt (bR off inb).toLoadRect} {α : Type} {Q : α → sProp 𝕄} {kk : Vec F S256x4096 .bf16 → Prog (TpuEff nD τ sig (Elt F) Λ₀ .tc) α} [FloatOps F] :
    ownR (F := F) c ⊢ iprop((∀ v, ownR (F := F) c -∗ WP c (kk v) Q) -∗ WP c (.op (.load cM (bR off inb).toLoadRect hl) kk) Q) := by
  unfold ownR
  iintro ⟨%f, Hb⟩ HK
  iapply (wp_load 𝒱₀ (c : Thread nD τ) none Set.univ (m := cM) (r := (bR off inb).toLoadRect)
    (by show (bR off inb).set.map (Function.Embedding.refl _) ⊆ _; rw [Finset.map_refl, bR_set ho])) $$ Hb
  iintro Hb
  iapply HK
  iexists f; iexact Hb

theorem store_own (K : Dev nD × CI → ℕ) (c : Dev nD) (s : St) (hd : ∀ a, s.held a = true → ownA a = false) {w : FVec F S256x4096 .bf16} (hw : w = blkV m ρ c)
    {off : Fin 2 → ℕ} {inb : ∀ a, off a + S256x4096.size a ≤ S256x32768.size a} (ho : off = ![0, 4096 * c.val])
    {hx : (cM.access (bR off inb)).Stores Finset.univ} {hm : (Finset.univ : Finset (bR off inb).shape.Idx) = Finset.univ ∨ ∀ a, (bR off inb).stride a = 1}
    {α : Type} {Q : α → sProp 𝕄} {kk : PUnit → Prog (TpuEff nD τ sig (Elt F) Λ₀ .tc) α} :
    iprop(Hold m ρ K c s ∗ ownR (F := F) c) ⊢ iprop((Hold m ρ K c (s.add ownA) -∗ WP c (kk ⟨⟩) Q)
      -∗ WP c (.op (.store cM (bR off inb) w Finset.univ hx hm) kk) Q) := by
  have hset : (cM.access (bR off inb)).setOn Finset.univ = cols (4096 * c.val) (4096 * c.val + 4096) :=
    (View.set_slice_whole cc0_scratch0 (bR off inb)).trans (bR_set ho)
  have hv : ∀ f : Buf (Elt F) (cLoc c), (cLoc c ↦[cols (4096 * c.val) (4096 * c.val + 4096)]{fullShare} (cM.access (bR off inb)).write (Elt F) f w Finset.univ : sProp 𝕄)
      = Pool m ρ c ownA := fun f => by
    rw [Pool_own, blk_own]
    refine pointsTo_congr fun x hx => ?_
    have hb := (mem_block x c).mp hx
    have e := View.write_emb_of_mem (v := (cM.access (bR off inb))) (Val := Elt F) f w (Finset.mem_univ (inIx x))
    have e' : (cM.access (bR off inb)).emb (inIx x) = x := bR_inIx ho x hb
    rw [e'] at e
    refine e.trans ?_
    show w (inIx x) = blkV m ρ (bkIx x) (inIx x)
    rw [hw, hb]
  unfold Hold ownR
  rw [show (s.add ownA).held = fun a => s.held a || ownA a from rfl, Pool_or m ρ c s.held ownA hd]
  iintro ⟨⟨#Hrec, #Hlev, Hsnd, Hrcv, HO, Hpool, Hout⟩, ⟨%f, Hb⟩⟩ HK
  iapply (wp_store 𝒱₀ (c : Thread nD τ) none Set.univ (m := cM) (r := bR off inb) (Mk := Finset.univ) (by rw [hset])) $$ Hb
  iintro Hb
  ihave Hb' := (Entails.of_eq (hv f)) $$ Hb
  iapply HK
  isplitr; · iexact Hrec
  isplitr; · iexact Hlev
  isplitl [Hsnd]; · iexact Hsnd
  isplitl [Hrcv]; · iexact Hrcv
  isplitl [HO]; · iexact HO
  isplitl [Hpool Hb']; · isplitl [Hpool] <;> iassumption
  iexact Hout

end Cert.KernelIdealProof

end
-- ==== Proof.Start.lean ====
/-
The first phase of a device: its seven barrier signals, each handing over the places the signalled device's copies fill, the wait
for its own seven, and the two stores of its statistics row.
-/
module

public import proofs.«01_k».proof.Proof.Local

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device `k` places after `c`. -/
def fw (c : Fin 8) (k : Fin 8) : Fin 8 := ⟨(c.val + k.val) % 8, Nat.mod_lt _ (by decide)⟩

theorem fw_bk : ∀ c k : Fin 8, bk (fw c k) k = c := by decide

/-- How far on a copy goes, and from how far back one comes. -/
def hop (c : Fin 8) (i : Fin 29) : Fin 8 := ⟨((org i c).val + (8 - c.val)) % 8, Nat.mod_lt _ (by decide)⟩
def hopD (c : Fin 8) (i : Fin 29) : Fin 8 := ⟨(c.val + (8 - (dst i c).val)) % 8, Nat.mod_lt _ (by decide)⟩
theorem hop_iff : ∀ (c k : Fin 8) (i : Fin 29), (hop c i = k) ↔ (dst i (fw c k) = bk (fw c k) k) := by decide +kernel
theorem hopD_iff : ∀ (c k : Fin 8) (i : Fin 29), (hopD c i = k) ↔ (dst i c = bk c k) := by decide +kernel
theorem hop_image : ∀ c : Fin 8, (Finset.univ : Finset (Fin 29)).image (hop c) = Finset.univ.erase 0 := by decide +kernel
theorem hopD_image : ∀ c : Fin 8, (Finset.univ : Finset (Fin 29)).image (hopD c) = Finset.univ.erase 0 := by decide +kernel

omit [FloatOps F] in
/-- All places on `c` that copies fill, sorted by the device that fills them. -/
theorem places_give (c : Dev nD) : bigSep Finset.univ (fun i : Fin 29 => raw (F := F) i c) = bigSep (Finset.univ.erase 0) fun k => barPay (F := F) (fw c k) k := by
  rw [bigSep_fiberwise Finset.univ (hop c), hop_image c]
  refine bigSep_congr fun k _ => ?_
  unfold barPay
  rw [Finset.filter_congr fun i _ => hop_iff c k i]
  refine bigSep_congr fun i hi => ?_
  rw [(Finset.mem_filter.mp hi).2, fw_bk]

omit [FloatOps F] in
/-- All places `c`'s copies fill, as its seven signals bring them. -/
theorem places_take (c : Dev nD) : bigSep (Finset.univ.erase 0) (barPay (F := F) c) = bigSep Finset.univ (fun i : Fin 29 => raw (F := F) i (dst i c)) := by
  rw [bigSep_fiberwise Finset.univ (hopD c), hopD_image c]
  refine bigSep_congr fun k _ => ?_
  unfold barPay
  rw [Finset.filter_congr fun i _ => hopD_iff c k i]

/-! ## The scratch buffers taken apart -/

theorem apart : ∀ i j : Fin 29, i ≠ j → 7 ≤ i.val → 7 ≤ j.val →
    ((dp i, dr i) ≠ (dp j, dr j)) ∨ bd (cp i).hi ≤ bd (cp j).lo ∨ bd (cp j).hi ≤ bd (cp i).lo := by decide +kernel
theorem notOwn : ∀ i : Fin 29, 7 ≤ i.val → (dp i, dr i) ≠ (false, 0) := by decide +kernel
theorem covered : ∀ (p : Bool) (r : Fin 4) (pc : Fin 6), (p = false ∧ r = 0) ∨
    ∃ i : Fin 29, 7 ≤ i.val ∧ dp i = p ∧ dr i = r ∧ (cp i).lo ≤ pc.castSucc ∧ pc.succ ≤ (cp i).hi := by decide +kernel

abbrev ownC (c : Fin 8) : Finset S256x32768.Idx := cols (4096 * c.val) (4096 * c.val + 4096)
abbrev plc (c : Fin 8) (i : Fin 29) : Finset S256x32768.Idx :=
  cols (4096 * (blk c (dp i) (dr i)).val + bd (cp i).lo) (4096 * (blk c (dp i) (dr i)).val + bd (cp i).hi)
abbrev I7 : Finset (Fin 29) := Finset.univ.filter fun i => 7 ≤ i.val

theorem plc_sub (c : Fin 8) (i : Fin 29) : plc c i ⊆ ownC (blk c (dp i) (dr i)) := fun x hx => by
  simp only [cols, Finset.mem_filter, Finset.mem_univ, _root_.true_and] at hx ⊢
  have := bd_le (cp i).hi
  omega

theorem plc_disjoint (c : Fin 8) (i j : Fin 29) (hi : 7 ≤ i.val) (hj : 7 ≤ j.val) (h : i ≠ j) : Disjoint (plc c i) (plc c j) := by
  by_cases hb : (dp i, dr i) = (dp j, dr j)
  · have h1 : dp i = dp j := congrArg Prod.fst hb
    have h2 : dr i = dr j := congrArg Prod.snd hb
    rcases apart i j h hi hj with h' | h'
    · exact absurd hb h'
    · refine Finset.disjoint_filter.mpr fun x _ hx hy => ?_
      rw [h1, h2] at hx
      omega
  · have hne : blk c (dp i) (dr i) ≠ blk c (dp j) (dr j) := fun e => hb (blk_inj c (dp i, dr i) (dp j, dr j) e)
    exact Finset.disjoint_of_subset_left (plc_sub c i) (Finset.disjoint_of_subset_right (plc_sub c j) (blocks_disjoint _ _ hne))

theorem plc_own (c : Fin 8) : Disjoint (ownC c) (I7.biUnion (plc c)) :=
  (Finset.disjoint_biUnion_right _ _ _).mpr fun i hi => by
    have hne : c ≠ blk c (dp i) (dr i) := fun e =>
      notOwn i (Finset.mem_filter.mp hi).2 ((blk_inj c (false, 0) (dp i, dr i) ((blk_own c).trans e)).symm)
    exact Finset.disjoint_of_subset_right (plc_sub c i) (blocks_disjoint _ _ hne)

theorem plc_all (c : Fin 8) : ownC c ∪ I7.biUnion (plc c) = Finset.univ := by
  ext x
  simp only [Finset.mem_union, Finset.mem_biUnion, Finset.mem_univ, iff_true]
  have hb : ∀ c b : Fin 8, ∃ y : Bool × Fin 4, blk c y.1 y.2 = b := by decide +kernel
  obtain ⟨⟨p, r⟩, hy⟩ := hb c (bkIx x)
  obtain ⟨pc, h1, h2⟩ := piece_of ((x 1).val % 4096) (Nat.mod_lt _ (by decide))
  have hv : (x 1).val / 4096 = (blk c p r).val := congrArg Fin.val hy.symm
  rcases covered p r pc with ⟨rfl, rfl⟩ | ⟨i, h7, rfl, rfl, hl, hh⟩
  · refine Or.inl ((mem_block x c).mpr ?_)
    rw [← hy, blk_own]
  · refine Or.inr ⟨i, Finset.mem_filter.mpr ⟨Finset.mem_univ _, h7⟩, Finset.mem_filter.mpr ⟨Finset.mem_univ _, ?_⟩⟩
    have := bd_mono _ _ hl
    have := bd_mono _ _ hh
    omega

theorem row_cover : row 0 ∪ (Finset.univ.filter fun i : Fin 29 => ¬ 7 ≤ i.val).biUnion (fun k => row (k.val + 1)) = Finset.univ := by
  ext i
  simp only [row, Finset.mem_union, Finset.mem_biUnion, Finset.mem_filter, Finset.mem_univ, _root_.true_and, iff_true]
  have h : (i 0).val < 8 := (i 0).isLt
  by_cases h0 : (i 0).val = 0
  · exact Or.inl h0
  · exact Or.inr ⟨⟨(i 0).val - 1, by omega⟩, by show ¬ 7 ≤ (i 0).val - 1; omega, by show _ = (i 0).val - 1 + 1; omega⟩

/-- The own statistics row, before it is stored. -/
def rowR (c : Dev nD) : sProp 𝕄 := iprop(∃ f : Buf (Elt F) (tLoc c), tLoc c ↦[row 0]{fullShare} f)

omit [FloatOps F] in
/-- The two scratch buffers are the own block, the own row and every place copies fill. -/
theorem scratch_split (c : Dev nD) :
    iprop((∃ f : Buf (Elt F) (cLoc c), cLoc c ↦{fullShare} f) ∗ (∃ f : Buf (Elt F) (tLoc c), tLoc c ↦{fullShare} f))
      ⊢ (iprop(ownR (F := F) c ∗ rowR (F := F) c ∗ bigSep (Finset.univ.erase 0) fun k => barPay (F := F) (fw c k) k) : sProp 𝕄) := by
  have hsp : bigSep Finset.univ (fun i : Fin 29 => raw (F := F) i c) = iprop(bigSep (Finset.univ.filter fun i : Fin 29 => 7 ≤ i.val) (fun i : Fin 29 => raw (F := F) i c)
      ∗ bigSep (Finset.univ.filter fun i : Fin 29 => ¬ 7 ≤ i.val) (fun i : Fin 29 => raw (F := F) i c)) := bigSep_filter_split Finset.univ (fun i : Fin 29 => 7 ≤ i.val)
  rw [← places_give, hsp]
  iintro ⟨⟨%f, Hc⟩, ⟨%g, Ht⟩⟩
  have hd : Disjoint (row 0) ((Finset.univ.filter fun i : Fin 29 => ¬ 7 ≤ i.val).biUnion (fun k => row (k.val + 1))) :=
    (Finset.disjoint_biUnion_right _ _ _).mpr fun k _ => row_disjoint _ _ (by omega)
  have ec : (cLoc c ↦{fullShare} f : sProp 𝕄) = iprop((cLoc c ↦[ownC c]{fullShare} f) ∗ bigSep I7 fun i => cLoc c ↦[plc c i]{fullShare} f) := by
    show (cLoc c ↦[Finset.univ]{fullShare} f : sProp 𝕄) = _
    rw [← plc_all c, BI.Entails.antisymm (pointsTo_union (plc_own c)).1 (pointsTo_union (plc_own c)).2,
      pointsTo_biUnion _ _ fun k hk k' hk' hne => plc_disjoint c k k' (Finset.mem_filter.mp hk).2 (Finset.mem_filter.mp hk').2 hne]
  have et : (tLoc c ↦{fullShare} g : sProp 𝕄) = iprop((tLoc c ↦[row 0]{fullShare} g)
      ∗ bigSep (Finset.univ.filter fun i : Fin 29 => ¬ 7 ≤ i.val) fun i => tLoc c ↦[row (i.val + 1)]{fullShare} g) := by
    show (tLoc c ↦[Finset.univ]{fullShare} g : sProp 𝕄) = _
    rw [← row_cover, BI.Entails.antisymm (pointsTo_union hd).1 (pointsTo_union hd).2,
      pointsTo_biUnion _ _ fun k _ k' _ hne => row_disjoint _ _ fun h => hne (Fin.ext (by omega))]
  ihave Hc := (Entails.of_eq ec) $$ Hc
  ihave Ht := (Entails.of_eq et) $$ Ht
  icases Hc with ⟨Hc0, Hc⟩
  icases Ht with ⟨Ht0, Ht⟩
  unfold ownR rowR
  isplitl [Hc0]; · iexists f; iexact Hc0
  isplitl [Ht0]; · iexists g; iexact Ht0
  isplitl [Hc]
  · iapply (show (bigSep I7 fun i => cLoc c ↦[plc c i]{fullShare} f : sProp 𝕄) ⊢ bigSep I7 (fun i : Fin 29 => raw (F := F) i c) from bigSep_mono fun i hi => by
      have h7 := (Finset.mem_filter.mp hi).2
      show (cLoc c ↦[plc c i]{fullShare} f : sProp 𝕄) ⊢ raw (F := F) i c
      unfold raw
      rw [if_neg (by omega)]
      iintro H; iexists f; iexact H) $$ Hc
  · iapply (show (bigSep (Finset.univ.filter fun i : Fin 29 => ¬ 7 ≤ i.val) fun i => tLoc c ↦[row (i.val + 1)]{fullShare} g : sProp 𝕄)
        ⊢ bigSep (Finset.univ.filter fun i : Fin 29 => ¬ 7 ≤ i.val) (fun i : Fin 29 => raw (F := F) i c) from bigSep_mono fun i hi => by
      have h7 := (Finset.mem_filter.mp hi).2
      show (tLoc c ↦[row (i.val + 1)]{fullShare} g : sProp 𝕄) ⊢ raw (F := F) i c
      unfold raw
      rw [if_pos (by omega)]
      iintro H; iexists g; iexact H) $$ Ht

/-! ## The signals -/

/-- What is still to be handed over when the first `t` signals are given. -/
def give (c : Dev nD) (t : ℕ) : sProp 𝕄 :=
  bigSep (Finset.univ.filter fun k : Fin 8 => t < k.val) fun k => iprop(dutyTok ER (barCell (fw c k)) 0 k ∗ barPay (F := F) (fw c k) k)

def Sg (K : Dev nD × CI → ℕ) (c : Dev nD) (t : ℕ) : sProp 𝕄 :=
  iprop(recs m ρ K ∗ (∃ W, owes (c : Thread nD τ) (Ow c t) W) ∗ give (F := F) c t)

omit [FloatOps F] in
theorem give_next (c : Dev nD) (t : ℕ) (k : Fin 8) (hk : k.val = t + 1) :
    give (F := F) c t = iprop((dutyTok ER (barCell (fw c k)) 0 k ∗ barPay (F := F) (fw c k) k) ∗ give (F := F) c k.val) := by
  unfold give
  have : (Finset.univ.filter fun j : Fin 8 => t < j.val) = insert k (Finset.univ.filter fun j : Fin 8 => k.val < j.val) := by
    ext j; simp only [Finset.mem_filter, Finset.mem_univ, _root_.true_and, Finset.mem_insert, Fin.ext_iff]; omega
  rw [this, bigSep_insert (by simp)]
  rfl

theorem signal (K : Dev nD × CI → ℕ) (c n : Dev nD) (t : ℕ) (k : Fin 8) (hk : k.val = t + 1) (hn : n = fw c k) {w : ℕ} (hw : w = 1)
    {α : Type} {Q : α → sProp 𝕄} {kk : PUnit → Prog (TpuEff nD τ sig (Elt F) Λ₀ .tc) α} :
    Sg m ρ K c t ⊢ iprop((Sg m ρ K c k.val -∗ WP c (kk ⟨⟩) Q) -∗ WP c (.op (.semSignal (Dev.tc n : Thread nD τ) barS w) kk) Q) := by
  subst hn hw
  unfold Sg
  rw [give_next c t k hk, show Ow c t = Ow c k.val + tallyAt (barCell (fw c k)) () 1 from by
    have h := Ow_succ c ⟨t, by omega⟩
    have e1 : oc c ⟨t, by omega⟩ = barCell (fw c k) := by
      unfold oc; rw [dif_pos (by show t < 7; omega)]
      have : (⟨(c.val + (t + 1)) % 8, Nat.mod_lt _ (by decide)⟩ : Fin 8) = fw c k := Fin.ext (by show _ = (c.val + k.val) % 8; rw [hk])
      show barCell ⟨(c.val + (t + 1)) % 8, _⟩ = _
      rw [this]
    have e2 : on ⟨t, by omega⟩ = 1 := by unfold on; rw [dif_pos (by show t < 7; omega)]
    rw [e1, e2] at h
    rw [hk]; exact h]
  iintro ⟨#Hrec, ⟨%W, HO⟩, ⟨⟨Ht, Hp⟩, Hg⟩⟩ HK
  ihave Hr := (recs_at m ρ K (fw c k, none)) $$ Hrec
  icases Hr with ⟨#Hi, #Hm⟩
  iapply (Rounds.wp_signal 𝒱₀ ER (Rd m ρ) (c : Thread nD τ) none (dst := (fw c k : Thread nD τ)) (κ := K (fw c k, none))
      (d := k) (by rw [duties_bar]; exact Finset.mem_erase.mpr ⟨fun h => by rw [h] at hk; exact absurd hk (by simp), Finset.mem_univ _⟩)
      (amount_bar m ρ (fw c k) k) () (Ow c k.val) rfl) $$ [HO Ht Hp]
  · isplitr; · iexact Hi
    isplitl [HO]; · iexact HO
    isplitl [Ht]; · iexact Ht
    isplitl [Hp]; · rw [payload_bar]; iexact Hp
    iexact Hm
  iintro HO
  iapply HK
  isplitr; · iexact Hrec
  isplitl [HO]; · iexists W; iexact HO
  iexact Hg

/-- The state before anything: no copy started, nothing held. -/
def zI : St := ⟨0, fun _ => false, fun _ => false, fun _ => false, fun _ _ => 0⟩

/-- A device's positions on its own cells, and the right to pay each of its copies' two sides. -/
def toks (c : Dev nD) : sProp 𝕄 :=
  bigSep Finset.univ fun i : Fin 29 => iprop(atPos ER (sendCell i c) 0 ∅ 0 ∗ dutyTok ER (sendCell i c) 0 (0 : Fin 8) ∗ dutyTok ER (recvCell i (dst i c)) 0 (0 : Fin 8))

theorem barrier (K : Dev nD × CI → ℕ) (c : Dev nD) {w : ℕ} (hw : w = 7)
    {α : Type} {Q : α → sProp 𝕄} {kk : PUnit → Prog (TpuEff nD τ sig (Elt F) Λ₀ .tc) α} :
    iprop(Sg m ρ K c 7 ∗ levAts L lv ∗ atPos ER (barCell c) 0 ∅ 0 ∗ cred (tallyAt (barCell c) () 7) ∗ toks (F := F) c
        ∗ bigSep Finset.univ (RecvSt (F := F) c zI) ∗ Out m ρ c zI.out)
      ⊢ iprop(((Hold m ρ K c zI ∗ semVal (barCell c) 0) -∗ WP c (kk ⟨⟩) Q) -∗ WP c (.op (.semWait barS w) kk) Q) := by
  subst hw
  unfold Sg
  iintro ⟨⟨#Hrec, ⟨%W, HO⟩, -⟩, #Hlev, Hat, Hc, Htok, Hrcv, Hout⟩ HK
  ihave Hr := (recs_at m ρ K (c, none)) $$ Hrec
  icases Hr with ⟨#Hi, #Hm⟩
  iapply (Rounds.wp_wait_rest_token 𝒱₀ ER (Rd m ρ) (c : Thread nD τ) none (κ := K (c, none))
      (wpE_semWait_eq 𝒱₀ (c : Thread nD τ) none Set.univ) (Set.mem_univ _) () (O := Ow c 7) (W := W) (R := 0) (m := 0) (T := ∅)
      (by rw [Nat.zero_add, expect_bar])) $$ [Hc HO Hat]
  · isplitr; · iexact Hi
    isplitl [Hc]; · iexact Hc
    isplitl [HO]; · iexact HO
    isplitr
    · iapply (mayWait_lt c _ 7 fun t ht => by
        show 1 < _; rw [if_neg (by omega)]; omega)
      iexact Hlev
    iexact Hat
  iintro ⟨HO, Hat, -, Hpay⟩
  ihave Hp := (Entails.of_eq ((rest_bar m ρ c).trans (places_take c))) $$ Hpay
  imod (Rounds.cell_close ER (Rd m ρ) (Set.mem_univ (K (c, none))) (fun h => h) (R := 0 + 1) (duties_later m ρ (barCell c))) $$ [Hat] with Hz
  · isplitr; · iexact Hi
    iexact Hat
  iapply HK
  isplitr [Hz]
  · unfold Hold
    isplitr; · iexact Hrec
    isplitr; · iexact Hlev
    isplitl [Htok Hp]
    · unfold toks
      have hs : iprop(bigSep Finset.univ (fun i : Fin 29 => iprop(atPos ER (sendCell i c) 0 ∅ 0 ∗ dutyTok ER (sendCell i c) 0 (0 : Fin 8) ∗ dutyTok ER (recvCell i (dst i c)) 0 (0 : Fin 8)))
          ∗ bigSep Finset.univ (fun i : Fin 29 => raw (F := F) i (dst i c))) ⊢ (bigSep Finset.univ (SendSt (F := F) c zI) : sProp 𝕄) := by
        refine (Entails.of_eq (bigSep_sep _ _ _).symm).trans (bigSep_mono fun i _ => ?_)
        unfold SendSt
        rw [if_neg (by show ¬ false = true; decide), if_neg (by show ¬ i.val < 0; omega)]
        show iprop((atPos ER (sendCell i c) 0 ∅ 0 ∗ dutyTok ER (sendCell i c) 0 (0 : Fin 8) ∗ dutyTok ER (recvCell i (dst i c)) 0 (0 : Fin 8)) ∗ raw (F := F) i (dst i c))
          ⊢ (iprop(atPos ER (sendCell i c) 0 ∅ 0 ∗ dutyTok ER (sendCell i c) 0 (0 : Fin 8) ∗ dutyTok ER (recvCell i (dst i c)) 0 (0 : Fin 8) ∗ raw (F := F) i (dst i c)) : sProp 𝕄)
        iintro ⟨⟨H1, H2, H3⟩, H4⟩
        isplitl [H1]; · iexact H1
        isplitl [H2]; · iexact H2
        isplitl [H3] <;> iassumption
      iapply hs
      isplitl [Htok] <;> iassumption
    isplitl [Hrcv]; · iexact Hrcv
    isplitl [HO]; · iexists _; iexact HO
    isplitr; · unfold Pool zI; simp; iempintro
    iexact Hout
  iexact Hz

/-! ## The statistics row -/

abbrev tR (j : ℕ) (inb : ∀ a, (![0, j, 0] : Fin 3 → ℕ) a + S1x1x256.size a ≤ S8x2x256.size a) : Rect S8x2x256 := Rect.unit (s := S8x2x256) ![0, j, 0] S1x1x256.size inb

theorem tR_mem {j : ℕ} {inb} (x : S8x2x256.Idx) : x ∈ (tR j inb).set ↔ (x 0).val = 0 ∧ (x 1).val = j := by
  rw [Rect.mem_set_unit]
  constructor
  · intro h; obtain ⟨_, h0⟩ := h 0; obtain ⟨h1, h1'⟩ := h 1
    have h0 : (x 0).val < 0 + 1 := h0
    have h1 : j ≤ (x 1).val := h1
    have h1' : (x 1).val < j + 1 := h1'
    omega
  · rintro ⟨h0, h1⟩ a
    match a with
    | ⟨0, _⟩ => exact ⟨Nat.zero_le _, by show (x 0).val < 0 + 1; omega⟩
    | ⟨1, _⟩ => exact ⟨by show j ≤ (x 1).val; omega, by show (x 1).val < j + 1; omega⟩
    | ⟨2, _⟩ => exact ⟨Nat.zero_le _, by show (x 2).val < 0 + 256; have h0 : (x 2).val < 256 := (x 2).isLt; omega⟩

theorem tR_row {j : ℕ} {inb} : (tR j inb).set ⊆ row 0 := fun x hx => Finset.mem_filter.mpr ⟨Finset.mem_univ _, ((tR_mem x).mp hx).1⟩

theorem tR_emb {j : ℕ} {inb} (x : S8x2x256.Idx) (h0 : (x 0).val = 0) (h1 : (x 1).val = j) : (tR j inb).emb (ValueIdx.ix3 0 0 (x 2)) = x := by
  subst h1
  funext a
  match a with
  | ⟨0, _⟩ => exact Fin.ext (by show 0 + 1 * 0 = (x 0).val; omega)
  | ⟨1, _⟩ => exact Fin.ext (by show (x 1).val + 1 * 0 = (x 1).val; omega)
  | ⟨2, _⟩ => exact Fin.ext (by show 0 + 1 * (x 2).val = (x 2).val; omega)

theorem tR_write {j : ℕ} {inb} (f : S8x2x256.Idx → Elt F .f32) (w : FVec F S1x1x256 .f32) (x : S8x2x256.Idx) (h0 : (x 0).val = 0) :
    (tM.access (tR j inb)).write (Elt F) f w Finset.univ x = if (x 1).val = j then w (ValueIdx.ix3 0 0 (x 2)) else f x := by
  split
  · rename_i h1
    have e := View.write_emb_of_mem (v := (tM.access (tR j inb))) (Val := Elt F) f w (Finset.mem_univ (ValueIdx.ix3 0 0 (x 2)))
    have e' : (tM.access (tR j inb)).emb (ValueIdx.ix3 0 0 (x 2)) = x := tR_emb x h0 h1
    exact (congrArg _ e'.symm).trans e
  · rename_i h1
    refine View.write_of_not_mem _ _ _ fun hmem => h1 ?_
    have hs : (tM.access (tR j inb)).setOn Finset.univ = (tR j inb).set := View.set_slice_whole cc0_scratch1 (tR j inb)
    rw [hs] at hmem
    exact ((tR_mem x).mp hmem).2

/-- The two loads and the two stores of the row, in the program's order. -/
theorem row_stored (K : Dev nD × CI → ℕ) (c : Dev nD) {inb₀ : ∀ a, (![0, 0, 0] : Fin 3 → ℕ) a + S1x1x256.size a ≤ S8x2x256.size a}
    {inb₁ : ∀ a, (![0, 1, 0] : Fin 3 → ℕ) a + S1x1x256.size a ≤ S8x2x256.size a} {hl₀ : tM.view.LoadsAt (tR 0 inb₀).toLoadRect} {hl₁ : tM.view.LoadsAt (tR 1 inb₁).toLoadRect}
    {hx₀ : (tM.access (tR 0 inb₀)).Stores Finset.univ} {hx₁ : (tM.access (tR 1 inb₁)).Stores Finset.univ}
    {hm₀ : (Finset.univ : Finset (tR 0 inb₀).shape.Idx) = Finset.univ ∨ ∀ a, (tR 0 inb₀).stride a = 1}
    {hm₁ : (Finset.univ : Finset (tR 1 inb₁).shape.Idx) = Finset.univ ∨ ∀ a, (tR 1 inb₁).stride a = 1}
    {α : Type} {Q : α → sProp 𝕄} {kk : PUnit → Prog (TpuEff nD τ sig (Elt F) Λ₀ .tc) α} :
    iprop(Hold m ρ K c zI ∗ rowR (F := F) c) ⊢ iprop((Hold m ρ K c z₀ -∗ WP c (kk ⟨⟩) Q)
      -∗ WP c (.op (.load tM (tR 0 inb₀).toLoadRect hl₀) fun _ => .op (.store tM (tR 0 inb₀) (k0_pay6 (mL m ρ c)) Finset.univ hx₀ hm₀) fun _ =>
        .op (.load tM (tR 1 inb₁).toLoadRect hl₁) fun _ => .op (.store tM (tR 1 inb₁) (k0_pay7 (sL m ρ c)) Finset.univ hx₁ hm₁) kk) Q) := by
  have hl : ∀ {j : ℕ} {inb}, tM.view.setOn (tR j inb).toLoadRect.set ⊆ row 0 := fun {j} {inb} => by
    show (tR j inb).set.map (Function.Embedding.refl _) ⊆ _; rw [Finset.map_refl]; exact tR_row
  have hs : ∀ {j : ℕ} {inb}, (tM.access (tR j inb)).setOn Finset.univ ⊆ row 0 := fun {j} {inb} => by
    rw [show (tM.access (tR j inb)).setOn Finset.univ = (tR j inb).set from View.set_slice_whole cc0_scratch1 (tR j inb)]; exact tR_row
  have hv : ∀ f : Buf (Elt F) (tLoc c), (tLoc c ↦[row 0]{fullShare} (tM.access (tR 1 inb₁)).write (Elt F)
      ((tM.access (tR 0 inb₀)).write (Elt F) f (k0_pay6 (mL m ρ c)) Finset.univ) (k0_pay7 (sL m ρ c)) Finset.univ : sProp 𝕄) = Pool m ρ c row0A := fun f => by
    rw [Pool_row0]
    refine pointsTo_congr fun x hx => ?_
    have h0 : (x 0).val = 0 := (Finset.mem_filter.mp hx).2
    rw [tR_write _ _ x h0, tR_write _ _ x h0]
    unfold statG
    have hb : bk c (x 0) = c := (congrArg (bk c) (Fin.ext h0 : (x 0 : Fin 8) = (0 : Fin 8))).trans (bk_zero c)
    have hx1 : (x 1).val < 2 := (x 1).isLt
    rw [hb]
    split
    · rename_i h; rw [if_neg (by omega)]
    · rename_i h; rw [if_pos (by omega), if_pos (by omega)]
  unfold Hold rowR
  iintro ⟨⟨#Hrec, #Hlev, Hsnd, Hrcv, HO, Hpool, Hout⟩, ⟨%f, Hb⟩⟩ HK
  iapply (wp_load 𝒱₀ (c : Thread nD τ) none Set.univ (m := tM) (r := (tR 0 inb₀).toLoadRect) hl) $$ Hb
  iintro Hb
  iapply (wp_store 𝒱₀ (c : Thread nD τ) none Set.univ (m := tM) (r := tR 0 inb₀) (Mk := Finset.univ) hs) $$ Hb
  iintro Hb
  iapply (wp_load 𝒱₀ (c : Thread nD τ) none Set.univ (m := tM) (r := (tR 1 inb₁).toLoadRect) hl) $$ Hb
  iintro Hb
  iapply (wp_store 𝒱₀ (c : Thread nD τ) none Set.univ (m := tM) (r := tR 1 inb₁) (Mk := Finset.univ) hs) $$ Hb
  iintro Hb
  ihave Hb' := (Entails.of_eq (hv f)) $$ Hb
  iapply HK
  isplitr; · iexact Hrec
  isplitr; · iexact Hlev
  isplitl [Hsnd]; · iexact Hsnd
  isplitl [Hrcv]; · iexact Hrcv
  isplitl [HO]; · iexact HO
  isplitl [Hb']; · iexact Hb'
  iexact Hout

end Cert.KernelIdealProof

end
-- ==== Proof.Parts.lean ====
/-
A device's program, part by part: each part takes the state before it to the state after it.
-/
module

public import proofs.«01_k».proof.Proof.Start

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev xW := Memref.isWhole_whole cc0_stg0_0
abbrev wW := Memref.isWhole_whole cc0_stg1_0
abbrev oW := Memref.isWhole_whole cc0_stg2_0
abbrev cW := Memref.isWhole_whole cc0_scratch0
abbrev tW := Memref.isWhole_whole cc0_scratch1

variable (K : Dev nD × CI → ℕ) (c : Dev nD)

/-! ## The states between the parts -/

def y₃ : St := z₀.snd 0
def y₄ : St := ((y₃.snd 1).snd 2).snd 3
def y₅ : St := (y₄.snd 4).snd 5
def y₆ : St := (((y₅.snd 6).put false 0 1).wS 0).wR 0
def y₇ : St := (((y₆.wS 1).wR 1).wS 2).wR 2
def y₈ : St := ((y₇.wS 3).wR 3).wS 4
def y₉ : St := (((y₈.wR 4).wS 5).wR 5).wS 6
def y₁₀ : St := (y₉.wR 6).add ownA
def y₁₁ : St := (y₁₀.snd 7).snd 8
def y₁₂ : St := (y₁₁.snd 9).snd 10
def y₁₃ : St := ((((y₁₂.snd 11).wS 8).wR 8).wS 9).wR 9
def y₁₄ : St := ((y₁₃.snd 12).snd 13).wS 10
def y₁₅ : St := (((y₁₄.wR 10).wS 11).wR 11).snd 14
def y₁₆ : St := ((y₁₅.snd 15).snd 16).wS 12
def y₁₇ : St := (((y₁₆.wR 12).wS 13).wR 13).snd 17
def y₁₈ : St := (((y₁₇.snd 18).wS 14).wR 14).wS 15
def y₁₉ : St := (y₁₈.wR 15).snd 19
def y₂₀ : St := (((y₁₉.snd 20).snd 21).wS 17).wR 17
def y₂₁ : St := ((((y₂₀.wS 18).wR 18).wS 19).wR 19).wS 20
def y₂₂ : St := (((y₂₁.wR 20).snd 22).wS 7).wR 7
def y₂₃ : St := (y₂₂.snd 23).snd 24
def y₂₄ : St := ((((y₂₃.put false 0 2).put false 2 2).wS 23).wR 23).wS 24
def y₂₅ : St := ((y₂₄.wR 24).snd 25).snd 26
def y₂₆ : St := (((y₂₅.put false 1 2).put false 3 2).wS 25).wR 25
def y₂₇ : St := ((y₂₆.wS 26).wR 26).snd 27
def y₂₈ : St := ((((y₂₇.snd 28).put true 0 2).wS 27).wR 27).wS 28
def y₂₉ : St := ((((y₂₈.wR 28).wS 16).wR 16).wS 21).wR 21
def y₃₀ : St := (((y₂₉.wS 22).wR 22).put true 1 2).put true 2 2
/-- At the end. -/
def yE : St := y₃₀.put true 3 2

/-! ## The parts -/

theorem off1_eq : k0_off1 c = ![0, 4096 * (blk c false 0).val] := by revert c; decide +kernel
theorem off7_eq₁ : k0_off7 c 1#32 = ![0, 4096 * (blk c false 1).val] := by revert c; decide +kernel
theorem off7_eq₂ : k0_off7 c 2#32 = ![0, 4096 * (blk c false 2).val] := by revert c; decide +kernel
theorem off7_eq₃ : k0_off7 c 3#32 = ![0, 4096 * (blk c false 3).val] := by revert c; decide +kernel
theorem off8_eq : k0_off8 c = ![0, 4096 * (blk c true 0).val] := by revert c; decide +kernel
theorem off9_eq₁ : k0_off9 c 1#32 = ![0, 4096 * (blk c true 1).val] := by revert c; decide +kernel
theorem off9_eq₂ : k0_off9 c 2#32 = ![0, 4096 * (blk c true 2).val] := by revert c; decide +kernel
theorem off9_eq₃ : k0_off9 c 3#32 = ![0, 4096 * (blk c true 3).val] := by revert c; decide +kernel

/-- A signal, the next one in turn. -/
theorem signal_next (n : Dev nD) (t : ℕ) (k : Fin 8) (hk : k.val = t + 1) (hn : n = fw c k) {w : ℕ} (hw : w = 1)
    {α : Type} {Q : α → sProp 𝕄} {kk : PUnit → Prog (TpuEff nD τ sig (Elt F) Λ₀ .tc) α} :
    Sg m ρ K c t ⊢ iprop((Sg m ρ K c (t + 1) -∗ WP c (kk ⟨⟩) Q) -∗ WP c (.op (.semSignal (Dev.tc n : Thread nD τ) barS w) kk) Q) :=
  hk ▸ signal m ρ K c n t k hk hn hw

theorem part₁ {β : Type} {Q : β → sProp 𝕄}
    {kk : (Σ' (_ : Dev nD) (_ : BitVec 32) (_ : BitVec 32) (_ : BitVec 32) (_ : BitVec 32) (_ : BitVec 32) (_ : BitVec 32) (_ : BitVec 32) (_ : Sems sig S_), BitVec 32) → Prog (TpuEff nD τ sig (Elt F) Λ₀ .tc) β} :
    Sg m ρ K c 0 ⊢ iprop((∀ a₁ a₂ a₃ a₄ a₅ a₆ a₇ a₈, Sg m ρ K c 3 -∗ WP c (kk ⟨c, a₁, a₂, a₃, a₄, a₅, a₆, a₇, SemArray.scalar (sig.barrier 0 rfl), a₈⟩) Q)
      -∗ WP c (k0_part1_skel (F := F) xM xW wM wW oM oW cM cW tM tW cc0_scratch2 cc0_scratch3 cc0_scratch4 cc0_scratch5 cc0_scratch6 cc0_scratch7 cc0_scratch8 cc0_scratch9 >>= kk) Q) := by
  unfold k0_part1_skel
  simp only [semSignalWord, Prog.lift, Prog.bind_op, Prog.bind_ret, Prog.pure_eq_ret, wp_deviceId]
  iintro H HK
  iapply (signal_next m ρ K c _ 0 1 rfl (by revert c; decide +kernel) rfl) $$ H; iintro H
  iapply (signal_next m ρ K c _ 1 2 rfl (by revert c; decide +kernel) rfl) $$ H; iintro H
  iapply (signal_next m ρ K c _ 2 3 rfl (by revert c; decide +kernel) rfl) $$ H; iintro H
  iapply HK; iexact H

/-- The staged inputs. -/
def inP : sProp 𝕄 := iprop(((c : Thread nD τ).loc cc0_stg0_0 ↦{fullShare} xstg m ρ c) ∗ ((c : Thread nD τ).loc cc0_stg1_0 ↦{fullShare} wstg m ρ c))

theorem zz₂ : (![0, 0] : Fin 2 → Nat) = fun _ => 0 := funext fun a => by fin_cases a <;> rfl

/-- The rest of what a device starts with, beside the signals it has to give. -/
def rest : sProp 𝕄 :=
  iprop(levAts L lv ∗ atPos ER (barCell c) 0 ∅ 0 ∗ cred (tallyAt (barCell c) () 7) ∗ toks (F := F) c
        ∗ bigSep Finset.univ (RecvSt (F := F) c zI) ∗ Out m ρ c zI.out)

theorem part₂ {w₁ w₂ : BitVec 32} {β : Type} {Q : β → sProp 𝕄} {kk : (Σ' (_ : FVec F S256 .f32) (_ : FVec F S256x4096 .f32), FVec F S256 .f32) → Prog (TpuEff nD τ sig (Elt F) Λ₀ .tc) β} :
    iprop(Sg m ρ K c 3 ∗ rest m ρ c ∗ inP m ρ c) ⊢ iprop(((Hold m ρ K c zI ∗ semVal (barCell c) 0 ∗ inP m ρ c) -∗ WP c (kk ⟨mL m ρ c, eL m ρ c, sL m ρ c⟩) Q)
      -∗ WP c (k0_part2_skel (F := F) xM xW wM wW oM oW cM cW tM tW cc0_scratch2 cc0_scratch3 cc0_scratch4 cc0_scratch5 cc0_scratch6 cc0_scratch7 cc0_scratch8 cc0_scratch9 c w₁ (SemArray.scalar (sig.barrier 0 rfl)) w₂ >>= kk) Q) := by
  unfold k0_part2_skel
  simp only [semSignalWord, semWaitWord, Prog.lift, Prog.bind_op, Prog.bind_ret, Prog.pure_eq_ret]
  iintro ⟨H, Hr, Hin⟩ HK
  iapply (signal_next m ρ K c _ 3 4 rfl (by revert c; decide +kernel) rfl) $$ H; iintro H
  iapply (signal_next m ρ K c _ 4 5 rfl (by revert c; decide +kernel) rfl) $$ H; iintro H
  iapply (signal_next m ρ K c _ 5 6 rfl (by revert c; decide +kernel) rfl) $$ H; iintro H
  iapply (signal_next m ρ K c _ 6 7 rfl (by revert c; decide +kernel) rfl) $$ H; iintro H
  iapply (barrier m ρ K c rfl) $$ [H Hr]
  · unfold rest; isplitl [H] <;> iassumption
  iintro ⟨H, Hz⟩
  unfold inP
  icases Hin with ⟨Hx, Hw⟩
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  simp only [show xM.view.readAt (Elt F) (Rect.unit (s := S256x512) ![0, 0] S256x512.size inb_S256x512_S256x512_0_0).toLoadRect (xstg m ρ c) = xstg m ρ c from
      Memref.readAt_unit_zero (Elt F) cc0_stg0_0 zz₂ _ _,
    show wM.view.readAt (Elt F) (Rect.unit (s := S512x4096) ![0, 0] S512x4096.size inb_S512x4096_S512x4096_0_0).toLoadRect (wstg m ρ c) = wstg m ρ c from
      Memref.readAt_unit_zero (Elt F) cc0_stg1_0 zz₂ _ _]
  iapply HK
  isplitl [H]; · iexact H
  isplitl [Hz]; · iexact Hz
  isplitl [Hx] <;> iassumption

theorem part₃ {w₁ : BitVec 32} {β : Type} {Q : β → sProp 𝕄} {kk : (Σ' (_ : BitVec 32), BitVec 32) → Prog (TpuEff nD τ sig (Elt F) Λ₀ .tc) β} :
    iprop(Hold m ρ K c zI ∗ rowR (F := F) c) ⊢ iprop((∀ a₁ a₂, Hold m ρ K c y₃ -∗ WP c (kk ⟨a₁, a₂⟩) Q)
      -∗ WP c (k0_part3_skel (F := F) xM xW wM wW oM oW cM cW tM tW cc0_scratch2 cc0_scratch3 cc0_scratch4 cc0_scratch5 cc0_scratch6 cc0_scratch7 cc0_scratch8 cc0_scratch9 c w₁ (mL m ρ c) (sL m ρ c) >>= kk) Q) := by
  unfold k0_part3_skel
  simp only [Prog.lift, Prog.bind_op, Prog.bind_ret, Prog.pure_eq_ret]
  iintro H HK
  iapply (row_stored m ρ K c) $$ H; iintro H
  iapply (send_stat m ρ K c _ _ 0 (by decide) rfl rfl (by decide +kernel) (by revert c; decide +kernel) rfl rfl rfl) $$ H; iintro H
  iapply HK; iexact H

theorem part₄ {w₁ : BitVec 32} {β : Type} {Q : β → sProp 𝕄} {kk : (Σ' (_ : BitVec 32) (_ : BitVec 32), BitVec 32) → Prog (TpuEff nD τ sig (Elt F) Λ₀ .tc) β} :
    Hold m ρ K c y₃ ⊢ iprop((∀ a₁ a₂ a₃, Hold m ρ K c y₄ -∗ WP c (kk ⟨a₁, a₂, a₃⟩) Q) -∗ WP c (k0_part4_skel (F := F) xM xW wM wW oM oW cM cW tM tW cc0_scratch2 cc0_scratch3 cc0_scratch4 cc0_scratch5 cc0_scratch6 cc0_scratch7 cc0_scratch8 cc0_scratch9 c w₁ >>= kk) Q) := by
  unfold k0_part4_skel
  simp only [Prog.lift, Prog.bind_op, Prog.bind_ret, Prog.pure_eq_ret]
  iintro H HK
  iapply (send_stat m ρ K c _ _ 1 (by decide) rfl rfl (by decide +kernel) (by revert c; decide +kernel) rfl rfl rfl) $$ H; iintro H
  iapply (send_stat m ρ K c _ _ 2 (by decide) rfl rfl (by decide +kernel) (by revert c; decide +kernel) rfl rfl rfl) $$ H; iintro H
  iapply (send_stat m ρ K c _ _ 3 (by decide) rfl rfl (by decide +kernel) (by revert c; decide +kernel) rfl rfl rfl) $$ H; iintro H
  iapply HK; iexact H

theorem part₅ {w₁ w₂ : BitVec 32} {β : Type} {Q : β → sProp 𝕄} {kk : (Σ' (_ : BitVec 32), BitVec 32) → Prog (TpuEff nD τ sig (Elt F) Λ₀ .tc) β} :
    Hold m ρ K c y₄ ⊢ iprop((∀ a₁ a₂, Hold m ρ K c y₅ -∗ WP c (kk ⟨a₁, a₂⟩) Q) -∗ WP c (k0_part5_skel (F := F) xM xW wM wW oM oW cM cW tM tW cc0_scratch2 cc0_scratch3 cc0_scratch4 cc0_scratch5 cc0_scratch6 cc0_scratch7 cc0_scratch8 cc0_scratch9 c w₁ w₂ >>= kk) Q) := by
  unfold k0_part5_skel
  simp only [Prog.lift, Prog.bind_op, Prog.bind_ret, Prog.pure_eq_ret]
  iintro H HK
  iapply (send_stat m ρ K c _ _ 4 (by decide) rfl rfl (by decide +kernel) (by revert c; decide +kernel) rfl rfl rfl) $$ H; iintro H
  iapply (send_stat m ρ K c _ _ 5 (by decide) rfl rfl (by decide +kernel) (by revert c; decide +kernel) rfl rfl rfl) $$ H; iintro H
  iapply HK; iexact H

theorem part₆ {w₁ w₂ : BitVec 32} {β : Type} {Q : β → sProp 𝕄} {kk : PUnit → Prog (TpuEff nD τ sig (Elt F) Λ₀ .tc) β} :
    Hold m ρ K c y₅ ⊢ iprop((Hold m ρ K c y₆ -∗ WP c (kk ⟨⟩) Q) -∗ WP c (k0_part6_skel (F := F) xM xW wM wW oM oW cM cW tM tW cc0_scratch2 cc0_scratch3 cc0_scratch4 cc0_scratch5 cc0_scratch6 cc0_scratch7 cc0_scratch8 cc0_scratch9 c w₁ (eL m ρ c) w₂ >>= kk) Q) := by
  unfold k0_part6_skel
  simp only [Prog.lift, Prog.bind_op, Prog.bind_ret, Prog.pure_eq_ret]
  iintro H HK
  iapply (send_stat m ρ K c _ _ 6 (by decide) rfl rfl (by decide +kernel) (by revert c; decide +kernel) rfl rfl rfl) $$ H; iintro H
  iapply (load_out m ρ K c _) $$ H; iintro %v H
  iapply (store_out m ρ K c _ false 0 1 (fun _ => rfl) (fun h => absurd h (by decide)) (off1_eq c)) $$ H; iintro H
  iapply (wait_send m ρ K c _ 0 (by decide) rfl (by decide +kernel) rfl (by rfl)) $$ H; iintro H
  iapply (wait_recv m ρ K c _ 0 (by decide) rfl (by decide +kernel) rfl (by rfl)) $$ H; iintro H
  iapply HK; iexact H

theorem part₇ {w₁ w₂ : BitVec 32} {β : Type} {Q : β → sProp 𝕄} {kk : PUnit → Prog (TpuEff nD τ sig (Elt F) Λ₀ .tc) β} :
    Hold m ρ K c y₆ ⊢ iprop((Hold m ρ K c y₇ -∗ WP c (kk ⟨⟩) Q) -∗ WP c (k0_part7_skel (F := F) xM xW wM wW oM oW cM cW tM tW cc0_scratch2 cc0_scratch3 cc0_scratch4 cc0_scratch5 cc0_scratch6 cc0_scratch7 cc0_scratch8 cc0_scratch9 w₁ w₂ >>= kk) Q) := by
  unfold k0_part7_skel
  simp only [Prog.lift, Prog.bind_op, Prog.bind_ret, Prog.pure_eq_ret]
  iintro H HK
  iapply (wait_send m ρ K c _ 1 (by decide) rfl (by decide +kernel) rfl (by rfl)) $$ H; iintro H
  iapply (wait_recv m ρ K c _ 1 (by decide) rfl (by decide +kernel) rfl (by rfl)) $$ H; iintro H
  iapply (wait_send m ρ K c _ 2 (by decide) rfl (by decide +kernel) rfl (by rfl)) $$ H; iintro H
  iapply (wait_recv m ρ K c _ 2 (by decide) rfl (by decide +kernel) rfl (by rfl)) $$ H; iintro H
  iapply HK; iexact H

theorem part₈ {w₁ w₂ : BitVec 32} {β : Type} {Q : β → sProp 𝕄} {kk : PUnit → Prog (TpuEff nD τ sig (Elt F) Λ₀ .tc) β} :
    Hold m ρ K c y₇ ⊢ iprop((Hold m ρ K c y₈ -∗ WP c (kk ⟨⟩) Q) -∗ WP c (k0_part8_skel (F := F) xM xW wM wW oM oW cM cW tM tW cc0_scratch2 cc0_scratch3 cc0_scratch4 cc0_scratch5 cc0_scratch6 cc0_scratch7 cc0_scratch8 cc0_scratch9 w₁ w₂ >>= kk) Q) := by
  unfold k0_part8_skel
  simp only [Prog.lift, Prog.bind_op, Prog.bind_ret, Prog.pure_eq_ret]
  iintro H HK
  iapply (wait_send m ρ K c _ 3 (by decide) rfl (by decide +kernel) rfl (by rfl)) $$ H; iintro H
  iapply (wait_recv m ρ K c _ 3 (by decide) rfl (by decide +kernel) rfl (by rfl)) $$ H; iintro H
  iapply (wait_send m ρ K c _ 4 (by decide) rfl (by decide +kernel) rfl (by rfl)) $$ H; iintro H
  iapply HK; iexact H

theorem part₉ {w₁ : BitVec 32} {β : Type} {Q : β → sProp 𝕄} {kk : PUnit → Prog (TpuEff nD τ sig (Elt F) Λ₀ .tc) β} :
    Hold m ρ K c y₈ ⊢ iprop((Hold m ρ K c y₉ -∗ WP c (kk ⟨⟩) Q) -∗ WP c (k0_part9_skel (F := F) xM xW wM wW oM oW cM cW tM tW cc0_scratch2 cc0_scratch3 cc0_scratch4 cc0_scratch5 cc0_scratch6 cc0_scratch7 cc0_scratch8 cc0_scratch9 w₁ >>= kk) Q) := by
  unfold k0_part9_skel
  simp only [Prog.lift, Prog.bind_op, Prog.bind_ret, Prog.pure_eq_ret]
  iintro H HK
  iapply (wait_recv m ρ K c _ 4 (by decide) rfl (by decide +kernel) rfl (by rfl)) $$ H; iintro H
  iapply (wait_send m ρ K c _ 5 (by decide) rfl (by decide +kernel) rfl (by rfl)) $$ H; iintro H
  iapply (wait_recv m ρ K c _ 5 (by decide) rfl (by decide +kernel) rfl (by rfl)) $$ H; iintro H
  iapply (wait_send m ρ K c _ 6 (by decide) rfl (by decide +kernel) rfl (by rfl)) $$ H; iintro H
  iapply HK; iexact H

theorem part₁₀ {w₁ w₂ : BitVec 32} {β : Type} {Q : β → sProp 𝕄} {kk : BitVec 32 → Prog (TpuEff nD τ sig (Elt F) Λ₀ .tc) β} :
    iprop(Hold m ρ K c y₉ ∗ ownR (F := F) c) ⊢ iprop((∀ a, Hold m ρ K c y₁₀ -∗ WP c (kk a) Q)
      -∗ WP c (k0_part10_skel (F := F) xM xW wM wW oM oW cM cW tM tW cc0_scratch2 cc0_scratch3 cc0_scratch4 cc0_scratch5 cc0_scratch6 cc0_scratch7 cc0_scratch8 cc0_scratch9 c w₁ (mL m ρ c) w₂ >>= kk) Q) := by
  unfold k0_part10_skel
  simp only [Prog.lift, Prog.bind_op, Prog.bind_ret, Prog.pure_eq_ret]
  iintro ⟨H, Ho⟩ HK
  iapply (wait_recv m ρ K c _ 6 (by decide) rfl (by decide +kernel) rfl (by rfl)) $$ H; iintro H
  iapply (load_stat m ρ K c _ (by decide +kernel)) $$ H; iintro H
  iapply (load_stat m ρ K c _ (by decide +kernel)) $$ H; iintro H
  iapply (load_exp m ρ K c _ false 0 rfl (off1_eq c)) $$ H; iintro H
  iapply (load_own c (by revert c; decide +kernel)) $$ Ho; iintro %v Ho
  iapply (store_own m ρ K c (y₉.wR 6) (by decide +kernel) rfl (by revert c; decide +kernel)) $$ [H Ho]
  · isplitl [H] <;> iassumption
  iintro H
  iapply HK; iexact H

theorem part₁₁ {w₁ w₂ w₃ w₄ w₅ w₆ w₇ : BitVec 32} {β : Type} {Q : β → sProp 𝕄} {kk : (Σ' (_ : BitVec 32), BitVec 32) → Prog (TpuEff nD τ sig (Elt F) Λ₀ .tc) β} :
    Hold m ρ K c y₁₀ ⊢ iprop((∀ a₁ a₂, Hold m ρ K c y₁₁ -∗ WP c (kk ⟨a₁, a₂⟩) Q) -∗ WP c (k0_part11_skel (F := F) xM xW wM wW oM oW cM cW tM tW cc0_scratch2 cc0_scratch3 cc0_scratch4 cc0_scratch5 cc0_scratch6 cc0_scratch7 cc0_scratch8 cc0_scratch9 c w₁ w₂ w₃ w₄ w₅ w₆ w₇ >>= kk) Q) := by
  unfold k0_part11_skel
  simp only [Prog.lift, Prog.bind_op, Prog.bind_ret, Prog.pure_eq_ret]
  iintro H HK
  iapply (send_comm m ρ K c _ _ 7 (by decide) rfl rfl (by decide +kernel) (by revert c; decide +kernel) rfl rfl (by revert c; decide +kernel) rfl rfl rfl) $$ H; iintro H
  iapply (send_comm m ρ K c _ _ 8 (by decide) rfl rfl (by decide +kernel) (by revert c; decide +kernel) rfl rfl (by revert c; decide +kernel) rfl rfl rfl) $$ H; iintro H
  iapply HK; iexact H

theorem part₁₂ {w₁ w₂ w₃ w₄ w₅ w₆ : BitVec 32} {β : Type} {Q : β → sProp 𝕄} {kk : PUnit → Prog (TpuEff nD τ sig (Elt F) Λ₀ .tc) β} :
    Hold m ρ K c y₁₁ ⊢ iprop((Hold m ρ K c y₁₂ -∗ WP c (kk ⟨⟩) Q) -∗ WP c (k0_part12_skel (F := F) xM xW wM wW oM oW cM cW tM tW cc0_scratch2 cc0_scratch3 cc0_scratch4 cc0_scratch5 cc0_scratch6 cc0_scratch7 cc0_scratch8 cc0_scratch9 c w₁ w₂ w₃ w₄ w₅ w₆ >>= kk) Q) := by
  unfold k0_part12_skel
  simp only [Prog.lift, Prog.bind_op, Prog.bind_ret, Prog.pure_eq_ret]
  iintro H HK
  iapply (send_comm m ρ K c _ _ 9 (by decide) rfl rfl (by decide +kernel) (by revert c; decide +kernel) rfl rfl (by revert c; decide +kernel) rfl rfl rfl) $$ H; iintro H
  iapply (send_comm m ρ K c _ _ 10 (by decide) rfl rfl (by decide +kernel) (by revert c; decide +kernel) rfl rfl (by revert c; decide +kernel) rfl rfl rfl) $$ H; iintro H
  iapply HK; iexact H

theorem part₁₃ {w₁ w₂ w₃ w₄ : BitVec 32} {β : Type} {Q : β → sProp 𝕄} {kk : PUnit → Prog (TpuEff nD τ sig (Elt F) Λ₀ .tc) β} :
    Hold m ρ K c y₁₂ ⊢ iprop((Hold m ρ K c y₁₃ -∗ WP c (kk ⟨⟩) Q) -∗ WP c (k0_part13_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part13_skel
  simp only [Prog.lift, Prog.bind_op, Prog.bind_ret, Prog.pure_eq_ret]
  iintro H HK
  iapply (send_comm m ρ K c _ _ 11 (by decide) rfl rfl (by decide +kernel) (by revert c; decide +kernel) rfl rfl (by revert c; decide +kernel) rfl rfl rfl) $$ H; iintro H
  iapply (wait_send m ρ K c _ 8 (by decide) rfl (by decide +kernel) rfl (by rfl)) $$ H; iintro H
  iapply (wait_recv m ρ K c _ 8 (by decide) rfl (by decide +kernel) rfl (by rfl)) $$ H; iintro H
  iapply (wait_send m ρ K c _ 9 (by decide) rfl (by decide +kernel) rfl (by rfl)) $$ H; iintro H
  iapply (wait_recv m ρ K c _ 9 (by decide) rfl (by decide +kernel) rfl (by rfl)) $$ H; iintro H
  iapply HK; iexact H

theorem part₁₄ {w₁ w₂ w₃ w₄ : BitVec 32} {β : Type} {Q : β → sProp 𝕄} {kk : PUnit → Prog (TpuEff nD τ sig (Elt F) Λ₀ .tc) β} :
    Hold m ρ K c y₁₃ ⊢ iprop((Hold m ρ K c y₁₄ -∗ WP c (kk ⟨⟩) Q) -∗ WP c (k0_part14_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part14_skel
  simp only [Prog.lift, Prog.bind_op, Prog.bind_ret, Prog.pure_eq_ret]
  iintro H HK
  iapply (send_comm m ρ K c _ _ 12 (by decide) rfl rfl (by decide +kernel) (by revert c; decide +kernel) rfl rfl (by revert c; decide +kernel) rfl rfl rfl) $$ H; iintro H
  iapply (send_comm m ρ K c _ _ 13 (by decide) rfl rfl (by decide +kernel) (by revert c; decide +kernel) rfl rfl (by revert c; decide +kernel) rfl rfl rfl) $$ H; iintro H
  iapply (wait_send m ρ K c _ 10 (by decide) rfl (by decide +kernel) rfl (by rfl)) $$ H; iintro H
  iapply HK; iexact H

theorem part₁₅ {w₁ w₂ w₃ w₄ : BitVec 32} {β : Type} {Q : β → sProp 𝕄} {kk : (Σ' (_ : BitVec 32), BitVec 32) → Prog (TpuEff nD τ sig (Elt F) Λ₀ .tc) β} :
    Hold m ρ K c y₁₄ ⊢ iprop((∀ a₁ a₂, Hold m ρ K c y₁₅ -∗ WP c (kk ⟨a₁, a₂⟩) Q) -∗ WP c (k0_part15_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part15_skel
  simp only [Prog.lift, Prog.bind_op, Prog.bind_ret, Prog.pure_eq_ret]
  iintro H HK
  iapply (wait_recv m ρ K c _ 10 (by decide) rfl (by decide +kernel) rfl (by rfl)) $$ H; iintro H
  iapply (wait_send m ρ K c _ 11 (by decide) rfl (by decide +kernel) rfl (by rfl)) $$ H; iintro H
  iapply (wait_recv m ρ K c _ 11 (by decide) rfl (by decide +kernel) rfl (by rfl)) $$ H; iintro H
  iapply (send_comm m ρ K c _ _ 14 (by decide) rfl rfl (by decide +kernel) (by revert c; decide +kernel) rfl rfl (by revert c; decide +kernel) rfl rfl rfl) $$ H; iintro H
  iapply HK; iexact H

theorem part₁₆ {w₁ w₂ w₃ w₄ w₅ w₆ : BitVec 32} {β : Type} {Q : β → sProp 𝕄} {kk : PUnit → Prog (TpuEff nD τ sig (Elt F) Λ₀ .tc) β} :
    Hold m ρ K c y₁₅ ⊢ iprop((Hold m ρ K c y₁₆ -∗ WP c (kk ⟨⟩) Q) -∗ WP c (k0_part16_skel (F := F) xM xW wM wW oM oW cM cW tM tW cc0_scratch2 cc0_scratch3 cc0_scratch4 cc0_scratch5 cc0_scratch6 cc0_scratch7 cc0_scratch8 cc0_scratch9 c w₁ w₂ w₃ w₄ w₅ w₆ >>= kk) Q) := by
  unfold k0_part16_skel
  simp only [Prog.lift, Prog.bind_op, Prog.bind_ret, Prog.pure_eq_ret]
  iintro H HK
  iapply (send_comm m ρ K c _ _ 15 (by decide) rfl rfl (by decide +kernel) (by revert c; decide +kernel) rfl rfl (by revert c; decide +kernel) rfl rfl rfl) $$ H; iintro H
  iapply (send_comm m ρ K c _ _ 16 (by decide) rfl rfl (by decide +kernel) (by revert c; decide +kernel) rfl rfl (by revert c; decide +kernel) rfl rfl rfl) $$ H; iintro H
  iapply (wait_send m ρ K c _ 12 (by decide) rfl (by decide +kernel) rfl (by rfl)) $$ H; iintro H
  iapply HK; iexact H

theorem part₁₇ {w₁ w₂ w₃ w₄ : BitVec 32} {β : Type} {Q : β → sProp 𝕄} {kk : PUnit → Prog (TpuEff nD τ sig (Elt F) Λ₀ .tc) β} :
    Hold m ρ K c y₁₆ ⊢ iprop((Hold m ρ K c y₁₇ -∗ WP c (kk ⟨⟩) Q) -∗ WP c (k0_part17_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part17_skel
  simp only [Prog.lift, Prog.bind_op, Prog.bind_ret, Prog.pure_eq_ret]
  iintro H HK
  iapply (wait_recv m ρ K c _ 12 (by decide) rfl (by decide +kernel) rfl (by rfl)) $$ H; iintro H
  iapply (wait_send m ρ K c _ 13 (by decide) rfl (by decide +kernel) rfl (by rfl)) $$ H; iintro H
  iapply (wait_recv m ρ K c _ 13 (by decide) rfl (by decide +kernel) rfl (by rfl)) $$ H; iintro H
  iapply (send_comm m ρ K c _ _ 17 (by decide) rfl rfl (by decide +kernel) (by revert c; decide +kernel) rfl rfl (by revert c; decide +kernel) rfl rfl rfl) $$ H; iintro H
  iapply HK; iexact H

theorem part₁₈ {w₁ w₂ w₃ w₄ : BitVec 32} {β : Type} {Q : β → sProp 𝕄} {kk : PUnit → Prog (TpuEff nD τ sig (Elt F) Λ₀ .tc) β} :
    Hold m ρ K c y₁₇ ⊢ iprop((Hold m ρ K c y₁₈ -∗ WP c (kk ⟨⟩) Q) -∗ WP c (k0_part18_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part18_skel
  simp only [Prog.lift, Prog.bind_op, Prog.bind_ret, Prog.pure_eq_ret]
  iintro H HK
  iapply (send_comm m ρ K c _ _ 18 (by decide) rfl rfl (by decide +kernel) (by revert c; decide +kernel) rfl rfl (by revert c; decide +kernel) rfl rfl rfl) $$ H; iintro H
  iapply (wait_send m ρ K c _ 14 (by decide) rfl (by decide +kernel) rfl (by rfl)) $$ H; iintro H
  iapply (wait_recv m ρ K c _ 14 (by decide) rfl (by decide +kernel) rfl (by rfl)) $$ H; iintro H
  iapply (wait_send m ρ K c _ 15 (by decide) rfl (by decide +kernel) rfl (by rfl)) $$ H; iintro H
  iapply HK; iexact H

theorem part₁₉ {w₁ w₂ w₃ w₄ : BitVec 32} {β : Type} {Q : β → sProp 𝕄} {kk : PUnit → Prog (TpuEff nD τ sig (Elt F) Λ₀ .tc) β} :
    Hold m ρ K c y₁₈ ⊢ iprop((Hold m ρ K c y₁₉ -∗ WP c (kk ⟨⟩) Q) -∗ WP c (k0_part19_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part19_skel
  simp only [Prog.lift, Prog.bind_op, Prog.bind_ret, Prog.pure_eq_ret]
  iintro H HK
  iapply (wait_recv m ρ K c _ 15 (by decide) rfl (by decide +kernel) rfl (by rfl)) $$ H; iintro H
  iapply (send_comm m ρ K c _ _ 19 (by decide) rfl rfl (by decide +kernel) (by revert c; decide +kernel) rfl rfl (by revert c; decide +kernel) rfl rfl rfl) $$ H; iintro H
  iapply HK; iexact H

theorem part₂₀ {w₁ w₂ w₃ w₄ : BitVec 32} {β : Type} {Q : β → sProp 𝕄} {kk : PUnit → Prog (TpuEff nD τ sig (Elt F) Λ₀ .tc) β} :
    Hold m ρ K c y₁₉ ⊢ iprop((Hold m ρ K c y₂₀ -∗ WP c (kk ⟨⟩) Q) -∗ WP c (k0_part20_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part20_skel
  simp only [Prog.lift, Prog.bind_op, Prog.bind_ret, Prog.pure_eq_ret]
  iintro H HK
  iapply (send_comm m ρ K c _ _ 20 (by decide) rfl rfl (by decide +kernel) (by revert c; decide +kernel) rfl rfl (by revert c; decide +kernel) rfl rfl rfl) $$ H; iintro H
  iapply (send_comm m ρ K c _ _ 21 (by decide) rfl rfl (by decide +kernel) (by revert c; decide +kernel) rfl rfl (by revert c; decide +kernel) rfl rfl rfl) $$ H; iintro H
  iapply (wait_send m ρ K c _ 17 (by decide) rfl (by decide +kernel) rfl (by rfl)) $$ H; iintro H
  iapply (wait_recv m ρ K c _ 17 (by decide) rfl (by decide +kernel) rfl (by rfl)) $$ H; iintro H
  iapply HK; iexact H

theorem part₂₁ {w₁ w₂ : BitVec 32} {β : Type} {Q : β → sProp 𝕄} {kk : PUnit → Prog (TpuEff nD τ sig (Elt F) Λ₀ .tc) β} :
    Hold m ρ K c y₂₀ ⊢ iprop((Hold m ρ K c y₂₁ -∗ WP c (kk ⟨⟩) Q) -∗ WP c (k0_part21_skel (F := F) xM xW wM wW oM oW cM cW tM tW cc0_scratch2 cc0_scratch3 cc0_scratch4 cc0_scratch5 cc0_scratch6 cc0_scratch7 cc0_scratch8 cc0_scratch9 c w₁ w₂ >>= kk) Q) := by
  unfold k0_part21_skel
  simp only [Prog.lift, Prog.bind_op, Prog.bind_ret, Prog.pure_eq_ret]
  iintro H HK
  iapply (wait_send m ρ K c _ 18 (by decide) rfl (by decide +kernel) rfl (by rfl)) $$ H; iintro H
  iapply (wait_recv m ρ K c _ 18 (by decide) rfl (by decide +kernel) rfl (by rfl)) $$ H; iintro H
  iapply (wait_send m ρ K c _ 19 (by decide) rfl (by decide +kernel) rfl (by rfl)) $$ H; iintro H
  iapply (wait_recv m ρ K c _ 19 (by decide) rfl (by decide +kernel) rfl (by rfl)) $$ H; iintro H
  iapply (wait_send m ρ K c _ 20 (by decide) rfl (by decide +kernel) rfl (by rfl)) $$ H; iintro H
  iapply HK; iexact H

theorem part₂₂ {w₁ w₂ w₃ : BitVec 32} {β : Type} {Q : β → sProp 𝕄} {kk : BitVec 32 → Prog (TpuEff nD τ sig (Elt F) Λ₀ .tc) β} :
    Hold m ρ K c y₂₁ ⊢ iprop((∀ a₁, Hold m ρ K c y₂₂ -∗ WP c (kk a₁) Q) -∗ WP c (k0_part22_skel (F := F) xM xW wM wW oM oW cM cW tM tW cc0_scratch2 cc0_scratch3 cc0_scratch4 cc0_scratch5 cc0_scratch6 cc0_scratch7 cc0_scratch8 cc0_scratch9 c w₁ w₂ w₃ >>= kk) Q) := by
  unfold k0_part22_skel
  simp only [Prog.lift, Prog.bind_op, Prog.bind_ret, Prog.pure_eq_ret]
  iintro H HK
  iapply (wait_recv m ρ K c _ 20 (by decide) rfl (by decide +kernel) rfl (by rfl)) $$ H; iintro H
  iapply (send_comm m ρ K c _ _ 22 (by decide) rfl rfl (by decide +kernel) (by revert c; decide +kernel) rfl rfl (by revert c; decide +kernel) rfl rfl rfl) $$ H; iintro H
  iapply (wait_send m ρ K c _ 7 (by decide) rfl (by decide +kernel) rfl (by rfl)) $$ H; iintro H
  iapply (wait_recv m ρ K c _ 7 (by decide) rfl (by decide +kernel) rfl (by rfl)) $$ H; iintro H
  iapply HK; iexact H

theorem part₂₃ {w₁ w₂ w₃ w₄ w₅ w₆ : BitVec 32} {β : Type} {Q : β → sProp 𝕄} {kk : (Σ' (_ : FVec F S256x4096 .f32), BitVec 32) → Prog (TpuEff nD τ sig (Elt F) Λ₀ .tc) β} :
    Hold m ρ K c y₂₂ ⊢ iprop((∀ a₁, Hold m ρ K c y₂₃ -∗ WP c (kk ⟨k0_pay9 (blkV m ρ (blk c false 0)), a₁⟩) Q) -∗ WP c (k0_part23_skel (F := F) xM xW wM wW oM oW cM cW tM tW cc0_scratch2 cc0_scratch3 cc0_scratch4 cc0_scratch5 cc0_scratch6 cc0_scratch7 cc0_scratch8 cc0_scratch9 c w₁ w₂ w₃ w₄ w₅ w₆ >>= kk) Q) := by
  unfold k0_part23_skel
  simp only [Prog.lift, Prog.bind_op, Prog.bind_ret, Prog.pure_eq_ret]
  iintro H HK
  iapply (send_comm m ρ K c _ _ 23 (by decide) rfl rfl (by decide +kernel) (by revert c; decide +kernel) rfl rfl (by revert c; decide +kernel) rfl rfl rfl) $$ H; iintro H
  iapply (send_comm m ρ K c _ _ 24 (by decide) rfl rfl (by decide +kernel) (by revert c; decide +kernel) rfl rfl (by revert c; decide +kernel) rfl rfl rfl) $$ H; iintro H
  iapply (load_comm m ρ K c _ false 0 (by decide +kernel) (off1_eq c)) $$ H; iintro H
  iapply HK; iexact H

theorem part₂₄ {w₁ w₂ w₃ w₄ w₅ : BitVec 32} {β : Type} {Q : β → sProp 𝕄} {kk : PUnit → Prog (TpuEff nD τ sig (Elt F) Λ₀ .tc) β} :
    Hold m ρ K c y₂₃ ⊢ iprop((Hold m ρ K c y₂₄ -∗ WP c (kk ⟨⟩) Q) -∗ WP c (k0_part24_skel (F := F) xM xW wM wW oM oW cM cW tM tW cc0_scratch2 cc0_scratch3 cc0_scratch4 cc0_scratch5 cc0_scratch6 cc0_scratch7 cc0_scratch8 cc0_scratch9 c w₁ w₂ w₃ w₄ (k0_pay9 (blkV m ρ (blk c false 0))) w₅ >>= kk) Q) := by
  unfold k0_part24_skel
  simp only [Prog.lift, Prog.bind_op, Prog.bind_ret, Prog.pure_eq_ret]
  iintro H HK
  iapply (load_out m ρ K c _) $$ H; iintro %v H
  iapply (store_out m ρ K c _ false 0 2 (fun h => absurd h (by decide)) (fun _ => rfl) (off1_eq c)) $$ H; iintro H
  iapply (load_comm m ρ K c _ false 2 (by decide +kernel) (off7_eq₂ c)) $$ H; iintro H
  iapply (load_out m ρ K c _) $$ H; iintro %v H
  iapply (store_out m ρ K c _ false 2 2 (fun h => absurd h (by decide)) (fun _ => rfl) (off7_eq₂ c)) $$ H; iintro H
  iapply (wait_send m ρ K c _ 23 (by decide) rfl (by decide +kernel) rfl (by rfl)) $$ H; iintro H
  iapply (wait_recv m ρ K c _ 23 (by decide) rfl (by decide +kernel) rfl (by rfl)) $$ H; iintro H
  iapply (wait_send m ρ K c _ 24 (by decide) rfl (by decide +kernel) rfl (by rfl)) $$ H; iintro H
  iapply HK; iexact H

theorem part₂₅ {w₁ w₂ w₃ w₄ : BitVec 32} {β : Type} {Q : β → sProp 𝕄} {kk : BitVec 32 → Prog (TpuEff nD τ sig (Elt F) Λ₀ .tc) β} :
    Hold m ρ K c y₂₄ ⊢ iprop((∀ a₁, Hold m ρ K c y₂₅ -∗ WP c (kk a₁) Q) -∗ WP c (k0_part25_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part25_skel
  simp only [Prog.lift, Prog.bind_op, Prog.bind_ret, Prog.pure_eq_ret]
  iintro H HK
  iapply (wait_recv m ρ K c _ 24 (by decide) rfl (by decide +kernel) rfl (by rfl)) $$ H; iintro H
  iapply (send_comm m ρ K c _ _ 25 (by decide) rfl rfl (by decide +kernel) (by revert c; decide +kernel) rfl rfl (by revert c; decide +kernel) rfl rfl rfl) $$ H; iintro H
  iapply (send_comm m ρ K c _ _ 26 (by decide) rfl rfl (by decide +kernel) (by revert c; decide +kernel) rfl rfl (by revert c; decide +kernel) rfl rfl rfl) $$ H; iintro H
  iapply HK; iexact H

theorem part₂₆ {w₁ w₂ w₃ w₄ : BitVec 32} {β : Type} {Q : β → sProp 𝕄} {kk : PUnit → Prog (TpuEff nD τ sig (Elt F) Λ₀ .tc) β} :
    Hold m ρ K c y₂₅ ⊢ iprop((Hold m ρ K c y₂₆ -∗ WP c (kk ⟨⟩) Q) -∗ WP c (k0_part26_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part26_skel
  simp only [Prog.lift, Prog.bind_op, Prog.bind_ret, Prog.pure_eq_ret]
  iintro H HK
  iapply (load_comm m ρ K c _ false 1 (by decide +kernel) (off7_eq₁ c)) $$ H; iintro H
  iapply (load_out m ρ K c _) $$ H; iintro %v H
  iapply (store_out m ρ K c _ false 1 2 (fun h => absurd h (by decide)) (fun _ => rfl) (off7_eq₁ c)) $$ H; iintro H
  iapply (load_comm m ρ K c _ false 3 (by decide +kernel) (off7_eq₃ c)) $$ H; iintro H
  iapply (load_out m ρ K c _) $$ H; iintro %v H
  iapply (store_out m ρ K c _ false 3 2 (fun h => absurd h (by decide)) (fun _ => rfl) (off7_eq₃ c)) $$ H; iintro H
  iapply (wait_send m ρ K c _ 25 (by decide) rfl (by decide +kernel) rfl (by rfl)) $$ H; iintro H
  iapply (wait_recv m ρ K c _ 25 (by decide) rfl (by decide +kernel) rfl (by rfl)) $$ H; iintro H
  iapply HK; iexact H

theorem part₂₇ {w₁ w₂ w₃ w₄ : BitVec 32} {β : Type} {Q : β → sProp 𝕄} {kk : (Σ' (_ : BitVec 32), BitVec 32) → Prog (TpuEff nD τ sig (Elt F) Λ₀ .tc) β} :
    Hold m ρ K c y₂₆ ⊢ iprop((∀ a₁ a₂, Hold m ρ K c y₂₇ -∗ WP c (kk ⟨a₁, a₂⟩) Q) -∗ WP c (k0_part27_skel (F := F) xM xW wM wW oM oW cM cW tM tW cc0_scratch2 cc0_scratch3 cc0_scratch4 cc0_scratch5 cc0_scratch6 cc0_scratch7 cc0_scratch8 cc0_scratch9 c w₁ w₂ w₃ w₄ >>= kk) Q) := by
  unfold k0_part27_skel
  simp only [Prog.lift, Prog.bind_op, Prog.bind_ret, Prog.pure_eq_ret]
  iintro H HK
  iapply (wait_send m ρ K c _ 26 (by decide) rfl (by decide +kernel) rfl (by rfl)) $$ H; iintro H
  iapply (wait_recv m ρ K c _ 26 (by decide) rfl (by decide +kernel) rfl (by rfl)) $$ H; iintro H
  iapply (send_comm m ρ K c _ _ 27 (by decide) rfl rfl (by decide +kernel) (by revert c; decide +kernel) rfl rfl (by revert c; decide +kernel) rfl rfl rfl) $$ H; iintro H
  iapply HK; iexact H

theorem part₂₈ {w₁ w₂ w₃ w₄ w₅ w₆ : BitVec 32} {β : Type} {Q : β → sProp 𝕄} {kk : BitVec 32 → Prog (TpuEff nD τ sig (Elt F) Λ₀ .tc) β} :
    Hold m ρ K c y₂₇ ⊢ iprop((∀ a₁, Hold m ρ K c y₂₈ -∗ WP c (kk a₁) Q) -∗ WP c (k0_part28_skel (F := F) xM xW wM wW oM oW cM cW tM tW cc0_scratch2 cc0_scratch3 cc0_scratch4 cc0_scratch5 cc0_scratch6 cc0_scratch7 cc0_scratch8 cc0_scratch9 c w₁ w₂ w₃ w₄ w₅ w₆ >>= kk) Q) := by
  unfold k0_part28_skel
  simp only [Prog.lift, Prog.bind_op, Prog.bind_ret, Prog.pure_eq_ret]
  iintro H HK
  iapply (send_comm m ρ K c _ _ 28 (by decide) rfl rfl (by decide +kernel) (by revert c; decide +kernel) rfl rfl (by revert c; decide +kernel) rfl rfl rfl) $$ H; iintro H
  iapply (load_comm m ρ K c _ true 0 (by decide +kernel) (off8_eq c)) $$ H; iintro H
  iapply (load_out m ρ K c _) $$ H; iintro %v H
  iapply (store_out m ρ K c _ true 0 2 (fun h => absurd h (by decide)) (fun _ => rfl) (off8_eq c)) $$ H; iintro H
  iapply (wait_send m ρ K c _ 27 (by decide) rfl (by decide +kernel) rfl (by rfl)) $$ H; iintro H
  iapply (wait_recv m ρ K c _ 27 (by decide) rfl (by decide +kernel) rfl (by rfl)) $$ H; iintro H
  iapply (wait_send m ρ K c _ 28 (by decide) rfl (by decide +kernel) rfl (by rfl)) $$ H; iintro H
  iapply HK; iexact H

theorem part₂₉ {w₁ w₂ : BitVec 32} {β : Type} {Q : β → sProp 𝕄} {kk : PUnit → Prog (TpuEff nD τ sig (Elt F) Λ₀ .tc) β} :
    Hold m ρ K c y₂₈ ⊢ iprop((Hold m ρ K c y₂₉ -∗ WP c (kk ⟨⟩) Q) -∗ WP c (k0_part29_skel (F := F) xM xW wM wW oM oW cM cW tM tW cc0_scratch2 cc0_scratch3 cc0_scratch4 cc0_scratch5 cc0_scratch6 cc0_scratch7 cc0_scratch8 cc0_scratch9 c w₁ w₂ >>= kk) Q) := by
  unfold k0_part29_skel
  simp only [Prog.lift, Prog.bind_op, Prog.bind_ret, Prog.pure_eq_ret]
  iintro H HK
  iapply (wait_recv m ρ K c _ 28 (by decide) rfl (by decide +kernel) rfl (by rfl)) $$ H; iintro H
  iapply (wait_send m ρ K c _ 16 (by decide) rfl (by decide +kernel) rfl (by rfl)) $$ H; iintro H
  iapply (wait_recv m ρ K c _ 16 (by decide) rfl (by decide +kernel) rfl (by rfl)) $$ H; iintro H
  iapply (wait_send m ρ K c _ 21 (by decide) rfl (by decide +kernel) rfl (by rfl)) $$ H; iintro H
  iapply (wait_recv m ρ K c _ 21 (by decide) rfl (by decide +kernel) rfl (by rfl)) $$ H; iintro H
  iapply HK; iexact H

theorem part₃₀ {w₁ w₂ w₃ : BitVec 32} {β : Type} {Q : β → sProp 𝕄} {kk : (Σ' (_ : BitVec 32), BitVec 32) → Prog (TpuEff nD τ sig (Elt F) Λ₀ .tc) β} :
    Hold m ρ K c y₂₉ ⊢ iprop((∀ a₁ a₂, Hold m ρ K c y₃₀ -∗ WP c (kk ⟨a₁, a₂⟩) Q) -∗ WP c (k0_part30_skel (F := F) xM xW wM wW oM oW cM cW tM tW cc0_scratch2 cc0_scratch3 cc0_scratch4 cc0_scratch5 cc0_scratch6 cc0_scratch7 cc0_scratch8 cc0_scratch9 c w₁ w₂ w₃ >>= kk) Q) := by
  unfold k0_part30_skel
  simp only [Prog.lift, Prog.bind_op, Prog.bind_ret, Prog.pure_eq_ret]
  iintro H HK
  iapply (wait_send m ρ K c _ 22 (by decide) rfl (by decide +kernel) rfl (by rfl)) $$ H; iintro H
  iapply (wait_recv m ρ K c _ 22 (by decide) rfl (by decide +kernel) rfl (by rfl)) $$ H; iintro H
  iapply (load_comm m ρ K c _ true 1 (by decide +kernel) (off9_eq₁ c)) $$ H; iintro H
  iapply (load_out m ρ K c _) $$ H; iintro %v H
  iapply (store_out m ρ K c _ true 1 2 (fun h => absurd h (by decide)) (fun _ => rfl) (off9_eq₁ c)) $$ H; iintro H
  iapply (load_comm m ρ K c _ true 2 (by decide +kernel) (off9_eq₂ c)) $$ H; iintro H
  iapply (load_out m ρ K c _) $$ H; iintro %v H
  iapply (store_out m ρ K c _ true 2 2 (fun h => absurd h (by decide)) (fun _ => rfl) (off9_eq₂ c)) $$ H; iintro H
  iapply HK; iexact H

end Cert.KernelIdealProof

end
-- ==== Proof.Body.lean ====
/-
A device's whole program: from what it starts with to every buffer filled and every semaphore closed.
-/
module

public import proofs.«01_k».proof.Proof.Parts

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-! ## The end -/

theorem yE_held : yE.held = fun a => commA a || rowsA a := by
  have h : ∀ a : Atom, yE.held a = (commA a || rowsA a) := by decide +kernel
  exact funext h
theorem yE_ws : ∀ i, yE.ws i = true := by decide +kernel
theorem yE_wr : ∀ i, yE.wr i = true := by decide +kernel
theorem yE_out : ∀ p r, yE.out p r = 2 := by decide +kernel
theorem blk_onto : ∀ c b : Fin 8, ∃ y : Bool × Fin 4, blk c y.1 y.2 = b := by decide +kernel

/-- A device's own cells closed. -/
def closed (c : Dev nD) : sProp 𝕄 := bigSep Finset.univ fun k : Bool × Fin 29 => semVal (kcell (c, some k)) 0

/-- What a device ends with: both scratch buffers filled, its cells closed, nothing owed, the result in place. -/
def Fin₀ (c : Dev nD) : sProp 𝕄 :=
  iprop((cLoc c ↦{fullShare} commG m ρ c) ∗ (tLoc c ↦{fullShare} statG m ρ c) ∗ closed (F := F) c
    ∗ (∃ W, owes (c : Thread nD τ) (0 : CellTallies nD τ sig Unit) W) ∗ (oLoc c ↦{fullShare} outG m ρ c))

omit [FloatOps F] in
theorem closed_eq : closed (F := F) c = iprop(bigSep Finset.univ (fun i : Fin 29 => semVal (sendCell i c) 0) ∗ bigSep Finset.univ (fun i : Fin 29 => semVal (recvCell i c) 0)) := by
  unfold closed
  rw [bigSep_univ_prod, bigSep_univ_at _ true, show Finset.univ.erase true = {false} from by decide, bigSep_singleton]
  rfl

theorem ends : Hold m ρ K c yE ⊢ Fin₀ m ρ c := by
  unfold Hold Fin₀
  rw [closed_eq, yE_held, Pool_or m ρ c commA rowsA (by decide +kernel), Pool_comm, Pool_rows,
    bigSep_congr (s := Finset.univ) (Φ := SendSt (F := F) c yE) (Ψ := fun i => semVal (sendCell i c) 0) (fun i _ => if_pos (yE_ws i)),
    bigSep_congr (s := Finset.univ) (Φ := RecvSt (F := F) c yE) (Ψ := fun i => semVal (recvCell i c) 0) (fun i _ => if_pos (yE_wr i)),
    show Ow c (7 + yE.n) = 0 from Ow_end c]
  unfold Out
  iintro ⟨-, -, HS, HR, HO, ⟨Hc, Ht⟩, ⟨%f, %hf, Ho⟩⟩
  have e : f = outG m ρ c := funext fun x => by
    obtain ⟨⟨p, r⟩, hy⟩ := blk_onto c (bkIx x)
    exact (hf p r x hy.symm).2 (yE_out p r)
  subst e
  isplitl [Hc]; · iexact Hc
  isplitl [Ht]; · iexact Ht
  isplitl [HS HR]
  · isplitl [HS] <;> iassumption
  isplitl [HO] <;> iassumption

/-! ## The beginning -/

/-- What a device starts with, beside the staged inputs. -/
def Ini (K : Dev nD × CI → ℕ) (c : Dev nD) : sProp 𝕄 :=
  iprop(recs m ρ K ∗ (∃ W, owes (c : Thread nD τ) (Ow c 0) W) ∗ levAts L lv
    ∗ bigSep (Finset.univ.erase 0) (fun k : Fin 8 => dutyTok ER (barCell (fw c k)) 0 k)
    ∗ atPos ER (barCell c) 0 ∅ 0 ∗ cred (tallyAt (barCell c) () 7) ∗ toks (F := F) c
    ∗ bigSep Finset.univ (RecvSt (F := F) c zI)
    ∗ ((∃ f : Buf (Elt F) (cLoc c), cLoc c ↦{fullShare} f) ∗ (∃ f : Buf (Elt F) (tLoc c), tLoc c ↦{fullShare} f))
    ∗ ∃ f : Buf (Elt F) (oLoc c), oLoc c ↦{fullShare} f)

theorem begins : Ini m ρ K c ⊢ iprop(Sg m ρ K c 0 ∗ rest m ρ c ∗ ownR (F := F) c ∗ rowR (F := F) c) := by
  unfold Ini Sg rest give Out
  iintro ⟨Hrec, HO, Hlev, Hd, Hat, Hc, Htok, Hrcv, Hscr, ⟨%f, Hout⟩⟩
  ihave Hs := (scratch_split (F := F) c) $$ Hscr
  icases Hs with ⟨Hown, Hrow, Hpay⟩
  isplitl [Hrec HO Hd Hpay]
  · isplitl [Hrec]; · iexact Hrec
    isplitl [HO]; · iexact HO
    have e : iprop(bigSep (Finset.univ.erase 0) (fun k : Fin 8 => (dutyTok ER (barCell (fw c k)) 0 k : sProp 𝕄)) ∗ bigSep (Finset.univ.erase 0) (fun k => barPay (F := F) (fw c k) k))
        = bigSep (Finset.univ.filter fun k : Fin 8 => 0 < k.val) (fun k => iprop(dutyTok ER (barCell (fw c k)) 0 k ∗ barPay (F := F) (fw c k) k)) := by
      rw [show (Finset.univ.filter fun k : Fin 8 => 0 < k.val) = Finset.univ.erase 0 from by decide]
      exact (bigSep_sep _ _ _).symm
    iapply (Entails.of_eq e)
    isplitl [Hd] <;> iassumption
  isplitr [Hown Hrow]
  · isplitl [Hlev]; · iexact Hlev
    isplitl [Hat]; · iexact Hat
    isplitl [Hc]; · iexact Hc
    isplitl [Htok]; · iexact Htok
    isplitl [Hrcv]; · iexact Hrcv
    iexists f
    isplitr
    · ipureintro; exact fun p r x _ => ⟨fun h => absurd h (by show ¬ (0 : Fin 3) = 1; decide), fun h => absurd h (by show ¬ (0 : Fin 3) = 2; decide)⟩
    iexact Hout
  isplitl [Hown] <;> iassumption

/-! ## All of it -/

omit [FloatOps F] in
theorem same (P : sProp 𝕄) : P ⊢ P := BI.Entails.refl P

set_option maxHeartbeats 1600000 in
/-- The program run from its beginning to its end. -/
theorem body_run {Q : PUnit → sProp 𝕄} :
    iprop(Ini m ρ K c ∗ inP m ρ c) ⊢ iprop(((Fin₀ m ρ c ∗ semVal (barCell c) 0 ∗ inP m ρ c) -∗ Q ⟨⟩)
      -∗ WP c (cc0_body (F := F) xM xW wM wW oM oW cM cW tM tW cc0_scratch2 cc0_scratch3 cc0_scratch4 cc0_scratch5 cc0_scratch6 cc0_scratch7 cc0_scratch8 cc0_scratch9) Q) := by
  rw [cc0_body_eq_skeleton]
  unfold cc0_body_skel
  iintro ⟨H, Hin⟩ HK
  ihave H := (begins m ρ K c) $$ H
  icases H with ⟨H, Hr, Hown, Hrow⟩
  iapply (part₁ m ρ K c) $$ H
  iintro %v2 %v3 %v4 %v5 %v8 %v11 %v13 %v28 H
  dsimp only
  ihave H := (same (F := F) iprop(Sg m ρ K c 3 ∗ rest m ρ c ∗ inP m ρ c)) $$ [H Hr Hin]
  · isplitl [H]; · iexact H
    isplitl [Hr] <;> iassumption
  iapply (part₂ m ρ K c (w₁ := v2) (w₂ := v28)) $$ H
  iintro ⟨H, Hz, Hin⟩
  dsimp only
  ihave H := (same (F := F) iprop(Hold m ρ K c zI ∗ rowR (F := F) c)) $$ [H Hrow]
  · isplitl [H] <;> iassumption
  iapply (part₃ m ρ K c (w₁ := v2)) $$ H
  iintro %v63 %v75 H
  iapply (part₄ m ρ K c (w₁ := v2)) $$ H
  iintro %v87 %v99 %v111 H
  iapply (part₅ m ρ K c (w₁ := v2) (w₂ := v111)) $$ H
  iintro %v123 %v135 H
  iapply (part₆ m ρ K c (w₁ := v2) (w₂ := v63)) $$ H
  iintro H
  iapply (part₇ m ρ K c (w₁ := v75) (w₂ := v87)) $$ H
  iintro H
  iapply (part₈ m ρ K c (w₁ := v99) (w₂ := v111)) $$ H
  iintro H
  iapply (part₉ m ρ K c (w₁ := v123)) $$ H
  iintro H
  ihave H := (same (F := F) iprop(Hold m ρ K c y₉ ∗ ownR (F := F) c)) $$ [H Hown]
  · isplitl [H] <;> iassumption
  iapply (part₁₀ m ρ K c (w₁ := v2) (w₂ := v135)) $$ H
  iintro %wa H
  iapply (part₁₁ m ρ K c (w₁ := v2) (w₂ := v3) (w₃ := v4) (w₄ := v8) (w₅ := v11) (w₆ := v13) (w₇ := wa)) $$ H
  iintro %v304 %wb H
  iapply (part₁₂ m ρ K c (w₁ := v3) (w₂ := v4) (w₃ := v8) (w₄ := v11) (w₅ := v304) (w₆ := wb)) $$ H
  iintro H
  iapply (part₁₃ m ρ K c (w₁ := v3) (w₂ := v4) (w₃ := v8) (w₄ := v11)) $$ H
  iintro H
  iapply (part₁₄ m ρ K c (w₁ := v3) (w₂ := v4) (w₃ := v8) (w₄ := v11)) $$ H
  iintro H
  iapply (part₁₅ m ρ K c (w₁ := v3) (w₂ := v4) (w₃ := v8) (w₄ := v11)) $$ H
  iintro %v425 %wc H
  iapply (part₁₆ m ρ K c (w₁ := v3) (w₂ := v4) (w₃ := v11) (w₄ := v13) (w₅ := v425) (w₆ := wc)) $$ H
  iintro H
  iapply (part₁₇ m ρ K c (w₁ := v3) (w₂ := v4) (w₃ := v8) (w₄ := v11)) $$ H
  iintro H
  iapply (part₁₈ m ρ K c (w₁ := v3) (w₂ := v4) (w₃ := v8) (w₄ := v11)) $$ H
  iintro H
  iapply (part₁₉ m ρ K c (w₁ := v3) (w₂ := v4) (w₃ := v8) (w₄ := v11)) $$ H
  iintro H
  iapply (part₂₀ m ρ K c (w₁ := v3) (w₂ := v4) (w₃ := v8) (w₄ := v13)) $$ H
  iintro H
  iapply (part₂₁ m ρ K c (w₁ := v8) (w₂ := v11)) $$ H
  iintro H
  iapply (part₂₂ m ρ K c (w₁ := v3) (w₂ := v4) (w₃ := v13)) $$ H
  iintro %wd H
  iapply (part₂₃ m ρ K c (w₁ := v2) (w₂ := v3) (w₃ := v5) (w₄ := v8) (w₅ := v11) (w₆ := wd)) $$ H
  iintro %v662 H
  iapply (part₂₄ m ρ K c (w₁ := v3) (w₂ := v4) (w₃ := v8) (w₄ := v11) (w₅ := v662)) $$ H
  iintro H
  iapply (part₂₅ m ρ K c (w₁ := v3) (w₂ := v5) (w₃ := v8) (w₄ := v11)) $$ H
  iintro %v723 H
  iapply (part₂₆ m ρ K c (w₁ := v3) (w₂ := v4) (w₃ := v8) (w₄ := v723)) $$ H
  iintro H
  iapply (part₂₇ m ρ K c (w₁ := v3) (w₂ := v5) (w₃ := v8) (w₄ := v11)) $$ H
  iintro %v783 %we H
  iapply (part₂₈ m ρ K c (w₁ := v3) (w₂ := v5) (w₃ := v8) (w₄ := v11) (w₅ := v783) (w₆ := we)) $$ H
  iintro %v813 H
  iapply (part₂₉ m ρ K c (w₁ := v13) (w₂ := v813)) $$ H
  iintro H
  iapply (part₃₀ m ρ K c (w₁ := v3) (w₂ := v5) (w₃ := v13)) $$ H
  iintro %v871 %v872 H
  simp only [Prog.lift, Prog.bind_op, Prog.bind_ret, Prog.pure_eq_ret]
  iapply (load_comm m ρ K c _ true 3 (by decide +kernel) (off9_eq₃ c)) $$ H; iintro H
  iapply (load_out m ρ K c _) $$ H; iintro %v H
  iapply (store_out m ρ K c _ true 3 2 (fun h => absurd h (by decide)) (fun _ => rfl) (off9_eq₃ c)) $$ H; iintro H
  unfold WP; rw [wp_ret]; imodintro
  iapply HK
  isplitl [H]; · iapply (ends m ρ K c); iexact H
  isplitl [Hz] <;> iassumption

end Cert.KernelIdealProof

end
-- ==== Proof.Run.lean ====
/-
The launch: what each device starts from, its cells and tokens set up, and the run of the whole program with the contents
of every window's array at the end.
-/
module

public import proofs.«01_k».proof.Proof.Body
public import proofs.«01_k».proof.Proof.Gen.KernelIdeal.Points
public import proofs.«01_k».proof.Proof.Gen.KernelIdeal.Launch
public import Idealize.ShloMosaic.Lib.Pipeline.CollectiveSegs

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The tokens and positions device `c` starts from: the duties it pays, and round 0 of its own cells. -/
def linear (c : Dev nD) : sProp 𝕄 :=
  iprop(bigSep (Finset.univ.erase 0) (fun k : Fin 8 => dutyTok ER (barCell (fw c k)) 0 k)
    ∗ atPos ER (barCell c) 0 ∅ 0 ∗ toks (F := F) c ∗ bigSep Finset.univ fun i : Fin 29 => atPos ER (recvCell i c) 0 ∅ 0)

/-- The credits of its own waits: seven units at its barrier and every arrival's bytes. -/
def creds (c : Dev nD) : sProp 𝕄 :=
  iprop(cred (tallyAt (barCell c) () 7) ∗ bigSep Finset.univ fun i : Fin 29 => cred (tallyAt (recvCell i c) () (Ncr i)))

def dealt (c : Dev nD) : sProp 𝕄 := iprop(∃ K : Dev nD × CI → ℕ, recs m ρ K ∗ linear (F := F) c)
def start (c : Dev nD) : sProp 𝕄 := iprop(dealt m ρ c ∗ creds (F := F) c ∗ levAts L lv)

def scr (c : Dev nD) : sProp 𝕄 :=
  iprop((∃ f : Buf (Elt F) (cLoc c), cLoc c ↦{fullShare} f) ∗ (∃ f : Buf (Elt F) (tLoc c), tLoc c ↦{fullShare} f))
def Φ₀ (c : Dev nD) : sProp 𝕄 := iprop(start m ρ c ∗ scr (F := F) c)
def Φ₁ (c : Dev nD) : sProp 𝕄 := iprop(scr (F := F) c ∗ closed (F := F) c ∗ semVal (barCell c) 0)

/-! ## The call's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outG m ρ c
  Φ t := match t with
    | ⟨0, _⟩ => Φ₀ m ρ c
    | ⟨_ + 1, _⟩ => Φ₁ (F := F) c
  q _ := fullShare
  owed t := match t with
    | ⟨0, _⟩ => Ow c 0
    | ⟨_ + 1, _⟩ => 0

/-- A staging buffer held whole at given contents. -/
abbrev stg (c : Dev nD) (r : Ref sig .tc) (x : r.ty.Contents (Elt F)) : sProp 𝕄 :=
  iprop(∃ f : Buf (Elt F) ((c : Thread nD τ).loc r), ⌜f = x⌝ ∗ ((c : Thread nD τ).loc r) ↦{fullShare} f)

omit [FloatOps F] in
theorem owns_whole_eq (c : Dev nD) (r : Ref sig .tc) (x : r.ty.Contents (Elt F)) :
    (owns (c : Thread nD τ) (Memref.whole r) fullShare x : sProp 𝕄) = stg c r x := by
  unfold owns stg; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c) ∗ stg c cc0_stg2_0 (outG m ρ c))

set_option maxRecDepth 4000 in
theorem sound_body (c : Dev nD) :
    bodyPre m ρ c ⊢ WP c (cc0_body (F := F) xM xW wM wW oM oW cM cW tM tW cc0_scratch2 cc0_scratch3 cc0_scratch4 cc0_scratch5 cc0_scratch6 cc0_scratch7 cc0_scratch8 cc0_scratch9)
      (fun _ => bodyPost m ρ c) := by
  unfold bodyPre Φ₀ start dealt creds linear
  iintro ⟨⟨⟨⟨%K, Hrec, Hd, Hat, Htok, Hv⟩, ⟨Hcb, Hcr⟩, Hlev⟩, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = Ow c 0 from rfl]
  have er : iprop(bigSep Finset.univ (fun i : Fin 29 => (atPos ER (recvCell i c) 0 ∅ 0 : sProp 𝕄)) ∗ bigSep Finset.univ fun i : Fin 29 => cred (tallyAt (recvCell i c) () (Ncr i)))
      = bigSep Finset.univ (RecvSt (F := F) c zI) := by
    rw [← bigSep_sep']
    exact bigSep_congr fun i _ => by unfold RecvSt; rw [if_neg (by show ¬ (false = true); decide)]
  ihave H := (same (F := F) iprop(Ini m ρ K c ∗ inP m ρ c)) $$ [Hrec Hd Hat Htok Hv Hcb Hcr Hlev Hscr HO Hx Hw Hout]
  · unfold Ini inP
    isplitr [Hx Hw]
    · isplitl [Hrec]; · iexact Hrec
      isplitl [HO]; · iexists W; iexact HO
      isplitl [Hlev]; · iexact Hlev
      isplitl [Hd]; · iexact Hd
      isplitl [Hat]; · iexact Hat
      isplitl [Hcb]; · iexact Hcb
      isplitl [Htok]; · iexact Htok
      isplitl [Hv Hcr]
      · iapply (Entails.of_eq er)
        isplitl [Hv] <;> iassumption
      isplitl [Hscr]; · unfold scr; iexact Hscr
      iexists g2; iexact Hout
    isplitl [Hx] <;> iassumption
  iapply (body_run m ρ K c) $$ H
  unfold Fin₀ inP bodyPost Φ₁ scr Dat.owesAt Pipeline.owesWithin
  iintro ⟨⟨Hc, Ht, Hcl, ⟨%W', HO⟩, Hout⟩, Hz, Hx, Hw⟩
  rw [show (dats m ρ 0 c).owed t0_0.succ = 0 from rfl]
  isplitl [Hc Ht Hcl Hz]
  · isplitl [Hc Ht]
    · isplitl [Hc]
      · iexists (commG m ρ c); iexact Hc
      · iexists (statG m ρ c); iexact Ht
    isplitl [Hcl] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 20000 in
theorem body_obligation (c : Dev nD) : BodyObligation (dats (F := F) m ρ 0 c) (defs₀ (F := F)) 𝒱₀ () Set.univ := fun t => by
  have e (Φ : Fin cfg0.W → sProp 𝕄) : bigSep Finset.univ Φ = iprop(Φ (0 : Fin 3) ∗ Φ (1 : Fin 3) ∗ Φ (2 : Fin 3)) := bigSep_W0 Φ
  rw [show t = t0_0 from fin_N0 t]
  rw [e, e]
  simp only [owns_whole_eq]
  exact sound_body m ρ c

/-! ## The credits at the launch -/

theorem bk_fw : ∀ c k : Fin 8, fw (bk c k) k = c := by decide

omit [FloatOps F] in
/-- One debt of every device is one credit of every device. -/
theorem cred_one (c : Dev nD) (t : Fin 36) :
    (Pipeline.launchCred (fun d => tallyAt (oc d t) () (on t)) c : sProp 𝕄)
      ⊢ cred (if h : t.val < 7 then tallyAt (barCell c) () 1 else tallyAt (recvCell ⟨t.val - 7, by omega⟩ c) () (Ncr ⟨t.val - 7, by omega⟩)) := by
  by_cases h : t.val < 7
  · rw [dif_pos h]
    have e : (fun d : Dev nD => (tallyAt (oc d t) () (on t) : CellTallies nD τ sig Unit)) = fun d => tallyAt (barCell (fw d ⟨t.val + 1, by omega⟩)) () 1 :=
      funext fun d => by unfold oc on; rw [dif_pos h, dif_pos h]; rfl
    rw [e]
    exact Pipeline.launchCred_tallyAt _ (fun d : Dev nD => fw d ⟨t.val + 1, by omega⟩) (fun d => bk d ⟨t.val + 1, by omega⟩) (fun d => bk_fw d _) (fun d => fw_bk d _) () 1 c
  · rw [dif_neg h]
    have e : (fun d : Dev nD => (tallyAt (oc d t) () (on t) : CellTallies nD τ sig Unit))
        = fun d => tallyAt (recvCell ⟨t.val - 7, by omega⟩ (dst ⟨t.val - 7, by omega⟩ d)) () (Ncr ⟨t.val - 7, by omega⟩) :=
      funext fun d => by unfold oc on; rw [dif_neg h, dif_neg h]
    rw [e]
    exact Pipeline.launchCred_tallyAt _ (fun d : Dev nD => dst ⟨t.val - 7, by omega⟩ d) (fun d => org ⟨t.val - 7, by omega⟩ d) (fun d => dst_org _ d) (fun d => org_dst _ d) () _ c

omit [FloatOps F] in
theorem cred_join (a b : CellTallies nD τ sig Unit) : iprop(cred a ∗ cred b) ⊢ (cred (a + b) : sProp 𝕄) := (cred_add _ _).2

omit [FloatOps F] in
/-- Single units at one cell together. -/
theorem cred_units (g : GSem nD τ sig) {I : Type} [DecidableEq I] (s : Finset I) :
    bigSep s (fun _ => (cred (tallyAt g () 1) : sProp 𝕄)) ⊢ cred (tallyAt g () s.card) := by
  induction s using Finset.induction_on with
  | empty => rw [Finset.card_empty, tallyAt_zero, cred_zero]; iintro -; iempintro
  | insert a s ha ih =>
    rw [BI.bigSep_insert ha, Finset.card_insert_of_notMem ha, Nat.add_comm, ← tallyAt_add]
    exact (sep_mono_right ih).trans (cred_join _ _)

/-- The copies' places among the 36 debts. -/
def up7 : Fin 29 ↪ Fin 36 := ⟨fun i => ⟨i.val + 7, by omega⟩, fun i j h => Fin.ext (by have := congrArg Fin.val h; simp only at this; omega)⟩

omit [FloatOps F] in
theorem creds_intro (c : Dev nD) : (Pipeline.launchCred (fun d => Ow d 0) c : sProp 𝕄) ⊢ creds (F := F) c := by
  unfold Ow
  rw [Pipeline.launchCred_sum, Finset.filter_true_of_mem fun t _ => Nat.zero_le _]
  refine (bigSep_mono fun t _ => cred_one (F := F) c t).trans ?_
  rw [bigSep_filter_split Finset.univ (fun t : Fin 36 => t.val < 7)]
  unfold creds
  refine sep_mono ?_ ?_
  · rw [bigSep_congr (Ψ := fun _ => (cred (tallyAt (barCell c) () 1) : sProp 𝕄)) (fun t ht => congrArg cred (dif_pos (Finset.mem_filter.mp ht).2))]
    exact cred_units (F := F) _ _
  · rw [show (Finset.univ.filter fun t : Fin 36 => ¬ t.val < 7) = Finset.univ.map up7 from by decide, bigSep_map]
    exact bigSep_mono fun i _ => Entails.of_eq (congrArg cred (dif_neg (by show ¬ i.val + 7 < 7; omega)))

/-! ## The cells and their tokens -/

theorem csem_inj : Function.Injective csem := by
  have h : ∀ a b : CI, csem a = csem b → a = b := by decide +kernel
  exact fun a b => h a b

theorem kcell_inj : Function.Injective (kcell : Dev nD × CI → GSem nD τ sig) := by
  rintro ⟨c, k⟩ ⟨c', k'⟩ h
  have h1 : c = c' := congrArg (fun g : GSem nD τ sig => g.1.1) h
  subst h1
  exact congrArg (Prod.mk c) (csem_inj (congrArg Prod.snd h))
def kcells : Finset (GSem nD τ sig) := Finset.univ.map ⟨kcell, kcell_inj⟩

/-- The tokens of a cell's duties: the barrier's seven, or the one of a copy's cell. -/
abbrev TI := Fin 7 ⊕ (Bool × Fin 29)
def tokOf (x : Dev nD × TI) : GSem nD τ sig × ℕ × Fin 8 := match x.2 with
  | .inl k => (barCell x.1, 0, k.succ)
  | .inr si => (kcell (x.1, some si), 0, 0)
theorem tokOf_inj : Function.Injective tokOf := by
  rintro ⟨c, a⟩ ⟨c', a'⟩ h
  rcases a with k | si <;> rcases a' with k' | si'
  · have h1 : c = c' := congrArg (fun x : GSem nD τ sig × ℕ × Fin 8 => x.1.1.1) h
    have h2 : k.succ = k'.succ := congrArg (fun x : GSem nD τ sig × ℕ × Fin 8 => x.2.2) h
    rw [h1, Fin.succ_injective _ h2]
  · exact absurd (congrArg (fun x : GSem nD τ sig × ℕ × Fin 8 => x.2.2) h) (Fin.succ_ne_zero k)
  · exact absurd (congrArg (fun x : GSem nD τ sig × ℕ × Fin 8 => x.2.2) h).symm (Fin.succ_ne_zero k')
  · have h1 := kcell_inj (congrArg Prod.fst h : kcell (c, some si) = kcell (c', some si'))
    rw [show c = c' from congrArg Prod.fst h1, Option.some.inj (congrArg Prod.snd h1)]
def ktoks : Finset (GSem nD τ sig × ℕ × Fin 8) := Finset.univ.map ⟨tokOf, tokOf_inj⟩

def u₀ : UU := (initOf (Pipeline.cells cfgs cellOf_inj) (Pipeline.launchToks cfgs cellOf_inj), initOf kcells ktoks)

/-- The duty tokens of device `c`'s own cells. -/
def ownToks (c : Dev nD) : sProp 𝕄 :=
  iprop(bigSep Finset.univ (fun k : Fin 7 => dutyTok ER (barCell c) 0 k.succ) ∗ bigSep Finset.univ fun i : Fin 29 => iprop(dutyTok ER (sendCell i c) 0 0 ∗ dutyTok ER (recvCell i c) 0 0))

/-- What the launch deals device `c`. -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ ownToks (F := F) c)

omit [FloatOps F] in
theorem bigSep_side (Φ : Bool × Fin 29 → sProp 𝕄) :
    bigSep Finset.univ Φ = iprop(bigSep Finset.univ fun i : Fin 29 => iprop(Φ (true, i) ∗ Φ (false, i))) := by
  rw [bigSep_univ_prod, bigSep_univ_at _ true, show Finset.univ.erase true = {false} from by decide, bigSep_singleton, bigSep_sep']

omit [FloatOps F] in
theorem bigSep_cells (Φ : CI → sProp 𝕄) : bigSep Finset.univ Φ = iprop(Φ none ∗ bigSep Finset.univ fun k : Bool × Fin 29 => Φ (some k)) := by
  rw [bigSep_univ_at _ (none : CI), show Finset.univ.erase (none : CI) = Finset.univ.map Function.Embedding.some from by decide, BI.bigSep_map]
  rfl

theorem fund : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun k : CI => Φ (kcell (c, k)) := by
    unfold kcells; rw [BI.bigSep_map, bigSep_univ_prod]; rfl
  have hT : bigSep ktoks (fun x => (dutyTok ER x.1 x.2.1 x.2.2 : sProp 𝕄)) = bigSep Finset.univ fun c : Dev nD => ownToks c := by
    unfold ktoks; rw [BI.bigSep_map, bigSep_univ_prod]
    refine bigSep_congr fun c _ => ?_
    unfold ownToks
    rw [bigSep_univ_sum, bigSep_side]; rfl
  iintro HX
  imod (Rounds.fund ER (Rd m ρ) kcells ktoks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the two sides of every copy. -/
abbrev osem : Bool × Fin 29 → SemLoc sig := fun si => csem (some si)
theorem ownSemFacts : Pipeline.OwnSemFacts cfg0.spec osem := by
  refine ⟨?_, ?_, ?_⟩ <;> decide +kernel

omit [FloatOps F] in
theorem unscoped_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscoped_eq, bigSep_cells]
  unfold Pipeline.ownSems0
  iintro ⟨HO, HB⟩
  isplitl [HB]; · iexact HB
  iexact HO

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ ownToks (F := F) c) := by
  unfold G
  iintro ⟨Hos, Hus, Hst, Hat, Htok⟩
  ihave Hv := (sems_eq (F := F) c) $$ [Hos Hus]
  · isplitl [Hos] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens carried to who pays them -/

def fwE : Dev nD × Fin 7 ≃ Dev nD × Fin 7 where
  toFun x := (fw x.1 x.2.succ, x.2)
  invFun x := (bk x.1 x.2.succ, x.2)
  left_inv x := Prod.ext (fw_bk _ _) rfl
  right_inv x := Prod.ext (bk_fw _ _) rfl
def dstE : Dev nD × Fin 29 ≃ Dev nD × Fin 29 where
  toFun x := (dst x.2 x.1, x.2)
  invFun x := (org x.2 x.1, x.2)
  left_inv x := Prod.ext (org_dst _ _) rfl
  right_inv x := Prod.ext (dst_org _ _) rfl

omit [FloatOps F] in
theorem bigSep_moved {I : Type} [Fintype I] [DecidableEq I] (e : Dev nD × I ≃ Dev nD × I) (Φ : Dev nD × I → sProp 𝕄) :
    (bigSep Finset.univ fun c : Dev nD => bigSep Finset.univ fun k : I => Φ (c, k)) = bigSep Finset.univ fun c : Dev nD => bigSep Finset.univ fun k : I => Φ (e (c, k)) := by
  rw [← bigSep_univ_prod Φ, bigSep_univ_equiv e Φ, bigSep_univ_prod]

/-- The duties device `c` pays. -/
def payToks (c : Dev nD) : sProp 𝕄 :=
  iprop(bigSep (Finset.univ.erase 0) (fun k : Fin 8 => dutyTok ER (barCell (fw c k)) 0 k)
    ∗ bigSep Finset.univ (fun i : Fin 29 => dutyTok ER (sendCell i c) 0 0) ∗ bigSep Finset.univ (fun i : Fin 29 => dutyTok ER (recvCell i (dst i c)) 0 0))

omit [FloatOps F] in
theorem toks_moved : (bigSep Finset.univ fun c : Dev nD => (ownToks c : sProp 𝕄)) ⊢ bigSep Finset.univ fun c : Dev nD => payToks c := by
  unfold ownToks payToks
  simp only [bigSep_sep']
  rw [bigSep_moved fwE (fun x => (dutyTok ER (barCell x.1) 0 x.2.succ : sProp 𝕄)), bigSep_moved dstE (fun x => (dutyTok ER (recvCell x.2 x.1) 0 0 : sProp 𝕄))]
  refine sep_mono_left (Entails.of_eq (bigSep_congr fun c _ => ?_))
  rw [show (Finset.univ.erase 0 : Finset (Fin 8)) = Finset.univ.map (Fin.succEmb 7) from by decide, BI.bigSep_map]
  rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_of (c : Dev nD) : iprop((bigSep Finset.univ fun k : CI => atPos ER (kcell (c, k)) 0 ∅ 0) ∗ payToks (F := F) c) ⊢ linear (F := F) c := by
  unfold payToks linear toks
  rw [bigSep_cells, bigSep_side]
  simp only [bigSep_sep']
  iintro ⟨⟨HB, HS, HR⟩, Hb, Hs, Hr⟩
  isplitl [Hb]; · iexact Hb
  isplitl [HB]; · iexact HB
  isplitl [HS Hs Hr]
  · isplitl [HS]; · iexact HS
    isplitl [Hs] <;> iassumption
  iexact HR

theorem regroup :
    (bigSep Finset.univ fun c : Dev nD => iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ ownToks (F := F) c) : sProp 𝕄)
      ⊢ bigSep Finset.univ (dealt m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (Rd m ρ) κ (kcell ck) : sProp 𝕄))) $$ HI
  icases HK with ⟨%K, HI⟩
  ihave Htk := (toks_moved (F := F)) $$ Htok
  iapply (with_persistent (R := recs m ρ K) (Φ := fun c => iprop((bigSep Finset.univ fun k : CI => atPos ER (kcell (c, k)) 0 ∅ 0) ∗ payToks (F := F) c))
    (Ψ := dealt m ρ) fun c _ => by
      unfold dealt
      iintro ⟨HR, H⟩
      iexists K
      isplitl [HR]; · iexact HR
      iapply (linear_of (F := F) c); iexact H)
  isplitl [HI HR]
  · unfold recs
    iapply (Entails.of_eq (bigSep_sep' Finset.univ (fun ck : Dev nD × CI => (cellInv ER (Rd m ρ) (K ck) (kcell ck) : sProp 𝕄)) (fun ck => reached ER (kcell ck) 0)).symm)
    isplitl [HI] <;> iassumption
  · iapply (Entails.of_eq (bigSep_sep' Finset.univ (fun c : Dev nD => bigSep Finset.univ fun k : CI => (atPos ER (kcell (c, k)) 0 ∅ 0 : sProp 𝕄)) payToks).symm)
    isplitl [Hat] <;> iassumption

/-- Every device's semaphores set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => alloc m ρ c).trans (bigSep_fupd _ _)).trans (BI.fupd_mono (regroup m ρ))

/-! ## The run -/

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ dealt m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscoped_eq]
  unfold Φ₁ scr closed Pipeline.ownSems0
  iintro ⟨Hr, Hcl, Hz⟩
  isplitl [Hz]; · iexact Hz
  isplitl [Hcl]; · iexact Hcl
  iexact Hr

/-- A wait at a staging semaphore is below every debt. -/
theorem stage_wait (c : Dev nD) (q : DmaSem sig) (hq : lvS (SemLoc.dma q) = 0) (O : CellTallies nD τ sig Unit) (hO : O = Ow c 0 ∨ O = 0) :
    (levAts L lv : sProp 𝕄) ⊢ MayWait (c : Thread nD τ) (.dma q) () O := by
  rcases hO with rfl | rfl
  · exact mayWait_lt c _ 0 fun t _ => by rw [hq]; split <;> omega
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide +kernel) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- What device `c`'s arrays hold after the run. -/
def finalA (c : Dev nD) (w : Fin cfg0.W) : Buf (Elt F) ((cfg0.win w).arr.view.loc (c : Thread nD τ)) := (dats m ρ 0 c).arrAt w cfg0.N

set_option maxRecDepth 8000 in
/-- Every execution ends, with every device's arrays as computed and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array is unchanged. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- For any float values: every execution ends, its arguments unchanged and every semaphore at zero. -/
theorem run_frame : θ_run defs (onTc (τ := τ) (main (F := F))) (s₀ m ρ) (fun r =>
    (∀ c : Dev nD, r.2.mem (c.tc.loc main_arg0) = m (c.tc.loc main_arg0) ∧ r.2.mem (c.tc.loc main_arg1) = m (c.tc.loc main_arg1)) ∧ r.2.sem = fun _ => 0) := by
  exact (θ_run defs _ _).mono (fun _ h => ⟨fun c => ⟨(h.1 c (0 : Fin 3)).trans (finalA_x m ρ c), (h.1 c (1 : Fin 3)).trans (finalA_w m ρ c)⟩, h.2⟩) (run_main m ρ)

end Cert.KernelIdealProof

end
-- ==== Proof.Frames.lean ====
/-
Every program ends, its arguments unchanged and its semaphores at zero.
-/
module

public import proofs.«01_k».proof.Defs
public import proofs.«01_k».proof.Proof.Run
public import proofs.«01_k».proof.Proof.Bits.Run
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ => Cert.KernelProof.run_frame (F := Bits) m g

theorem frame_ideal : Cert.quiescent_KernelIdeal (hKernelIdeal := Cert.KernelIdeal.Gen.facts) := fun m g _ => Cert.KernelIdealProof.run_frame (F := Ideal) m g

/-- The reference has no semaphores. -/
theorem frame_reference : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems rfl _⟩) (Cert.ReferenceIdeal.Value.run (F := Ideal) m g)

end Cert.Proof

end
-- ==== Proof.Reads.lean ====
/-
What the buffers of the run hold, read at an index: the arguments as staged, the two rows of statistics, and the result
array at the end.
-/
module

public import proofs.«01_k».proof.Proof.Run
public import Idealize.ShloMosaic.Lib.Pointwise
public import Idealize.ShloMosaic.Lib.Pipeline.ValueKit

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each argument is staged whole. -/
theorem idx_x : ∀ t : Fin 1, win0_0.index t = ![0, 0] := fun t => by funext a; fin_cases a <;> rfl
theorem idx_w : ∀ t : Fin 1, win0_1.index t = ![0, 0] := fun t => by funext a; fin_cases a <;> rfl

theorem idx_o : ∀ t : Fin 1, win0_2.index t = ![0, 0] := fun t => by funext a; fin_cases a <;> rfl

theorem xstg_at (c : Dev nD) (i : S256x512.Idx) : xstg m ρ c i = m ((c : Thread nD τ).loc main_arg0) i := by
  unfold xstg
  show m _ _ = m _ _
  blk_ext [idx_x]

theorem wstg_at (c : Dev nD) (i : S512x4096.Idx) : wstg m ρ c i = m ((c : Thread nD τ).loc main_arg1) i := by
  unfold wstg
  show m _ _ = m _ _
  blk_ext [idx_w]

/-- Where the row of one statistic lies in the statistics buffer. -/
theorem stat_idx (o : ℕ) (ho : o < 2) (inb : ∀ a, (![0, o, 0] : Fin 3 → ℕ) a + S8x1x256.size a ≤ S8x2x256.size a) (k : Fin 8) (r : Fin 256) :
    (Rect.unit (s := S8x2x256) ![0, o, 0] S8x1x256.size inb).idx (ix3 k 0 r) = (ix3 k ⟨o, ho⟩ r : S8x2x256.Idx) := by
  funext a
  apply Fin.ext
  match a with
  | ⟨0, _⟩ => show 0 + 1 * k.val = k.val; omega
  | ⟨1, _⟩ => show o + 1 * 0 = o; omega
  | ⟨2, _⟩ => show 0 + 1 * r.val = r.val; omega

/-- A load of the row of one statistic. -/
theorem stat_load (o : ℕ) (ho : o < 2) (inb : ∀ a, (![0, o, 0] : Fin 3 → ℕ) a + S8x1x256.size a ≤ S8x2x256.size a) (d : Dev nD)
    (G : Buf (Elt F) (tLoc d)) (k : Fin 8) (r : Fin 256) :
    tM.view.readAt (Elt F) (Rect.unit (s := S8x2x256) ![0, o, 0] S8x1x256.size inb).toLoadRect G (ix3 k 0 r) = G (ix3 k ⟨o, ho⟩ r : S8x2x256.Idx) :=
  congrArg G (stat_idx o ho inb k r)

/-- The row of maxima that the filled statistics buffer holds of the device `k` places before. -/
theorem rdM_at (d : Dev nD) (k : Fin 8) (r : Fin 256) : rdM m ρ d (ix3 k 0 r) = k0_pay6 (mL m ρ (bk d k)) (ix3 0 0 r) := by
  unfold rdM
  rw [stat_load 0 (by decide)]
  unfold statG
  rw [if_pos (by rfl)]
  rfl

/-- The row of sums. -/
theorem rdS_at (d : Dev nD) (k : Fin 8) (r : Fin 256) : rdS m ρ d (ix3 k 0 r) = k0_pay7 (sL m ρ (bk d k)) (ix3 0 0 r) := by
  unfold rdS
  rw [stat_load 1 (by decide)]
  unfold statG
  rw [if_neg (by show ¬ (1 : ℕ) = 0; omega)]
  rfl

/-- The result array at the end, on every device. -/
theorem final_out (c : Dev nD) : finalA m ρ c (2 : Fin 3) = outG m ρ c := by
  unfold finalA
  refine (dats m ρ 0 c).arrAt_eq_of_after_last (2 : Fin 3) t0_0 (by decide +kernel) _ fun j => ?_
  blk_simp
  rfl

end Cert.KernelIdealProof

end
-- ==== Proof.Payloads.lean ====
/-
The body's payloads at the ideal instance, read at an index: logits, row maxima, exponentials, row sums, and a block
rescaled by the gathered statistics.
-/
module

public import proofs.«01_k».proof.Proof.Proto
public import Idealize.ShloMosaic.Lib.Pointwise
public import Idealize.ShloMosaic.PureOps.Ideal.Laws

@[expose] public section

noncomputable section

namespace Cert.KernelIdealProof

open Cert.KernelIdeal Cert.KernelIdeal.Gen Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One device's payloads -/

variable (X : FVec Ideal S256x512 .f32) (W : FVec Ideal S512x4096 .f32)

theorem negInf_f32 : Ideal.ofBits .f32 0xFF800000#32 = (⊥ : EReal) := by simp [Ideal.ofBits, Ideal.ieee]

/-- The logits: the product of the row of `x` with the column of `W`. -/
theorem pay2_at (r : Fin 256) (j : Fin 4096) :
    (k0_pay2 (F := Ideal) X W (ix2 r j) : EReal) = ∑ k : Fin 512, (X (ix2 r k) * W (ix2 k j) : EReal) := by
  unfold k0_pay2
  pointwise

/-- A row's maximum over the device's columns. -/
theorem pay3_at (r : Fin 256) :
    (k0_pay3 (F := Ideal) X W (ix1 r) : EReal) = (Finset.univ : Finset (Fin 4096)).fold max (⊥ : EReal) (fun j => (k0_pay2 (F := Ideal) X W (ix2 r j) : EReal)) := by
  unfold k0_pay3
  pointwise
  rw [negInf_f32]

/-- The exponentials at the device's own row maxima. -/
theorem pay4_at (r : Fin 256) (j : Fin 4096) :
    (k0_pay4 (F := Ideal) X W (ix2 r j) : EReal) = Ideal.exp (k0_pay2 (F := Ideal) X W (ix2 r j) - k0_pay3 (F := Ideal) X W (ix1 r) : EReal) := by
  unfold k0_pay4
  pointwise

/-- A row's sum over the device's columns. -/
theorem pay5_at (r : Fin 256) : (k0_pay5 (F := Ideal) X W (ix1 r) : EReal) = ∑ j : Fin 4096, (k0_pay4 (F := Ideal) X W (ix2 r j) : EReal) := by
  unfold k0_pay5
  pointwise

theorem pay6_at (v : FVec Ideal S256 .f32) (r : Fin 256) : (k0_pay6 (F := Ideal) v (ix3 0 0 r) : EReal) = v (ix1 r) := by
  unfold k0_pay6
  pointwise

theorem pay7_at (v : FVec Ideal S256 .f32) (r : Fin 256) : (k0_pay7 (F := Ideal) v (ix3 0 0 r) : EReal) = v (ix1 r) := by
  unfold k0_pay7
  pointwise

/-- A block rescaled: its exponentials times the factor which the gathered maxima and sums give for the row. -/
theorem pay8_at (μ : FVec Ideal S256 .f32) (A B : FVec Ideal S8x1x256 .f32) (E : FVec Ideal S256x4096 .f32) (r : Fin 256)
    (j : Fin 4096) (M : EReal) (hM : (Finset.univ : Finset (Fin 8)).fold max (⊥ : EReal) (fun k => (A (ix3 k 0 r) : EReal)) = M) :
    (k0_pay8 (F := Ideal) μ A B E (ix2 r j) : EReal) = (E (ix2 r j) : EReal) * Ideal.div (Ideal.exp ((μ (ix1 r) : EReal) - M))
      (∑ k : Fin 8, (B (ix3 k 0 r) : EReal) * Ideal.exp ((A (ix3 k 0 r) : EReal) - M)) := by
  subst hM
  unfold k0_pay8
  pointwise
  rw [negInf_f32]

theorem pay1_at (v : FVec Ideal S256x4096 .bf16) (i : S256x4096.Idx) : (k0_pay1 (F := Ideal) v i : EReal) = v i := by
  unfold k0_pay1
  pointwise

end Cert.KernelIdealProof

end
-- ==== Proof.RefValue.lean ====
/-
The reference's value at the ideal instance, read at an index: the quotient of a logit's exponential and its row's sum,
both at the row's maximum.
-/
module

public import proofs.«01_k».proof.Proof.Gen.ReferenceIdeal.Run
public import Idealize.ShloMosaic.Lib.Pointwise
public import Idealize.ShloMosaic.PureOps.Ideal.Laws

@[expose] public section

noncomputable section

namespace Cert.RefValue

open Cert.ReferenceIdeal Cert.ReferenceIdeal.Gen Idealize.ShloMosaic

variable (X : FVec Ideal S256x512 .f32) (W : FVec Ideal S512x32768 .f32)

/-- The logits, as the reference computes them. -/
def logits : FVec Ideal S256x32768 .f32 := Host.dotGeneral dot_S256x512_S512x32768_S256x32768_1_0_0_1_n_n none X W

/-- The rows' maxima. -/
def rowMax : FVec Ideal S256 .f32 :=
  Host.reduce FloatOps.maximumf (logits X W) (constant S_ .f32 0xFF800000#32) reducesTo_S256x32768_S256_d1 h_S_

/-- The exponentials. -/
def exps : FVec Ideal S256x32768 .f32 :=
  Host.exp (subf (logits X W) (broadcastInDim S256x32768 ![0, 1] bcast_S256x1_S256x32768_0_1
    (broadcastInDim S256x1 ![0] bcast_S256_S256x1_0 (rowMax X W))))

/-- The reference's result. -/
def out : FVec Ideal S256x32768 .f32 :=
  Host.divf (exps X W) (broadcastInDim S256x32768 ![0, 1] bcast_S256x1_S256x32768_0_1
    (broadcastInDim S256x1 ![0] bcast_S256_S256x1_0
      (Host.reduceAdd (exps X W) (constant S_ .f32 0x00000000#32) reducesTo_S256x32768_S256_d1 h_S_)))

theorem logits_at (r : Fin 256) (v : Fin 32768) :
    (logits X W (ix2 r v) : EReal) = ∑ k : Fin 512, (X (ix2 r k) * W (ix2 k v) : EReal) := by
  unfold logits
  pointwise

theorem rowMax_at (r : Fin 256) :
    (rowMax X W (ix1 r) : EReal)
      = (Finset.univ : Finset (Fin 32768)).fold max (⊥ : EReal) (fun v => (logits X W (ix2 r v) : EReal)) := by
  have e : Ideal.ofBits .f32 0xFF800000#32 = (⊥ : EReal) := by simp [Ideal.ofBits, Ideal.ieee]
  unfold rowMax
  pointwise
  rw [e]

theorem exps_at (r : Fin 256) (v : Fin 32768) :
    (exps X W (ix2 r v) : EReal) = Ideal.exp (logits X W (ix2 r v) - rowMax X W (ix1 r) : EReal) := by
  unfold exps
  pointwise

theorem out_at (r : Fin 256) (v : Fin 32768) :
    (out X W (ix2 r v) : EReal)
      = Ideal.div (exps X W (ix2 r v)) (∑ u : Fin 32768, (exps X W (ix2 r u) : EReal)) := by
  unfold out
  pointwise

end Cert.RefValue

end
-- ==== Proof.Softmax.lean ====
/-
The arithmetic of a softmax whose row is cut into blocks: each block has its own offset and its own sum, and the
blocks' sums are put together afterwards. Over the reals, and read at the extended reals of the ideal instance.
-/
module

public import Idealize.ShloMosaic.PureOps.Ideal
public import Idealize.ShloMosaic.PureOps.Ideal.Laws
public import Mathlib.Analysis.SpecialFunctions.Exp

@[expose] public section

namespace Cert.Softmax

open Idealize.ShloMosaic

/-- The greatest of finitely many reals, and of at least one, is a real. -/
theorem fold_max_real {ι : Type} [Fintype ι] [Nonempty ι] (f : ι → ℝ) :
    ∃ M : ℝ, (Finset.univ : Finset ι).fold max (⊥ : EReal) (fun k => (f k : EReal)) = (M : EReal) := by
  have h : (Finset.univ : Finset ι).fold max (⊥ : EReal) (fun k => (f k : EReal))
      = Finset.univ.sup (fun k => (f k : EReal)) := rfl
  rw [h]
  have h1 : Finset.univ.sup (fun k => (f k : EReal)) ≠ ⊤ :=
    ne_of_lt ((Finset.sup_lt_iff (bot_lt_top : (⊥ : EReal) < ⊤)).2 fun k _ => EReal.coe_lt_top _)
  have h2 : Finset.univ.sup (fun k => (f k : EReal)) ≠ ⊥ := by
    obtain ⟨k⟩ := ‹Nonempty ι›
    exact ne_of_gt (lt_of_lt_of_le (EReal.bot_lt_coe (f k)) (Finset.le_sup (f := fun k => (f k : EReal)) (Finset.mem_univ k)))
  exact ⟨_, (EReal.coe_toReal h1 h2).symm⟩

/-- A finite sum of reals, read as extended reals. -/
theorem coe_sum {ι : Type} [Fintype ι] (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- The exponential of a difference of reals. -/
theorem exp_sub_coe (a b : ℝ) : Ideal.exp ((a : EReal) - (b : EReal)) = ((Real.exp (a - b) : ℝ) : EReal) := by
  rw [← EReal.coe_sub]; rfl

/-- The quotient of reals whose denominator is not zero. -/
theorem div_coe (a b : ℝ) (h : b ≠ 0) : Ideal.div (a : EReal) (b : EReal) = ((a / b : ℝ) : EReal) := by
  have hb : (b : EReal) ≠ 0 := by exact_mod_cast h
  unfold Ideal.div
  rw [if_neg hb, ← EReal.coe_inv, ← EReal.coe_mul, div_eq_mul_inv]

variable {ι κ : Type} [Fintype ι] [Fintype κ] [Nonempty ι] [Nonempty κ]

/-- A sum of exponentials over all blocks is positive. -/
theorem sum_exp_pos (l : ι → κ → ℝ) (M : ℝ) : 0 < ∑ k, ∑ v, Real.exp (l k v - M) :=
  Finset.sum_pos (fun _ _ => Finset.sum_pos (fun _ _ => Real.exp_pos _) Finset.univ_nonempty) Finset.univ_nonempty

/-- The blocks' sums, each brought from its own offset to the common one, add up to the sum of the row, in whatever
    order the blocks are taken. -/
theorem sum_blocks (l : ι → κ → ℝ) (μ : ι → ℝ) (M : ℝ) (σ : ι ≃ ι) :
    ∑ k, (∑ v, Real.exp (l (σ k) v - μ (σ k))) * Real.exp (μ (σ k) - M) = ∑ k, ∑ v, Real.exp (l k v - M) := by
  rw [← Equiv.sum_comp σ fun k => ∑ v, Real.exp (l k v - M)]
  refine Finset.sum_congr rfl fun k _ => ?_
  rw [Finset.sum_mul]
  refine Finset.sum_congr rfl fun v _ => ?_
  rw [← Real.exp_add]; congr 1; ring

/-- A softmax does not depend on the offset that its exponents are taken at. -/
theorem shift (l : ι → κ → ℝ) (M M' : ℝ) (b : ι) (j : κ) :
    Real.exp (l b j - M) / (∑ k, ∑ v, Real.exp (l k v - M)) = Real.exp (l b j - M') / (∑ k, ∑ v, Real.exp (l k v - M')) := by
  have e (a : ℝ) : Real.exp (a - M) = Real.exp (M' - M) * Real.exp (a - M') := by
    rw [← Real.exp_add]; congr 1; ring
  have s : ∑ k, ∑ v, Real.exp (l k v - M) = Real.exp (M' - M) * ∑ k, ∑ v, Real.exp (l k v - M') := by
    rw [Finset.mul_sum]
    refine Finset.sum_congr rfl fun k _ => ?_
    rw [Finset.mul_sum]
    exact Finset.sum_congr rfl fun v _ => e _
  rw [s, e, mul_div_mul_left _ _ (Real.exp_pos _).ne']

/-- The blocked softmax over the reals. -/
theorem blocks_real (l : ι → κ → ℝ) (μ : ι → ℝ) (M M' : ℝ) (σ : ι ≃ ι) (b : ι) (j : κ) :
    Real.exp (l b j - μ b) *
        (Real.exp (μ b - M) / ∑ k, (∑ v, Real.exp (l (σ k) v - μ (σ k))) * Real.exp (μ (σ k) - M))
      = Real.exp (l b j - M') / ∑ k, ∑ v, Real.exp (l k v - M') := by
  rw [sum_blocks, ← shift l M M', ← mul_div_assoc, ← Real.exp_add]
  congr 2; ring

/-- The blocked softmax at the extended reals, of a row of reals: a block's exponentials at the block's own offset,
    times the block's factor, are the softmax of the row. -/
theorem blocks_ideal (l : ι → κ → ℝ) (μ : ι → ℝ) (M M' : ℝ) (σ : ι ≃ ι) (b : ι) (j : κ) :
    Ideal.exp ((l b j : EReal) - (μ b : EReal)) *
        Ideal.div (Ideal.exp ((μ b : EReal) - (M : EReal)))
          (∑ k, (∑ v, Ideal.exp ((l (σ k) v : EReal) - (μ (σ k) : EReal))) * Ideal.exp ((μ (σ k) : EReal) - (M : EReal)))
      = Ideal.div (Ideal.exp ((l b j : EReal) - (M' : EReal)))
          (∑ k, ∑ v, Ideal.exp ((l k v : EReal) - (M' : EReal))) := by
  have h1 : ∑ k, (∑ v, Ideal.exp ((l (σ k) v : EReal) - (μ (σ k) : EReal))) * Ideal.exp ((μ (σ k) : EReal) - (M : EReal))
      = ((∑ k, (∑ v, Real.exp (l (σ k) v - μ (σ k))) * Real.exp (μ (σ k) - M) : ℝ) : EReal) := by
    simp only [exp_sub_coe, coe_sum, EReal.coe_mul]
  have h2 : ∑ k, ∑ v, Ideal.exp ((l k v : EReal) - (M' : EReal)) = ((∑ k, ∑ v, Real.exp (l k v - M') : ℝ) : EReal) := by
    simp only [exp_sub_coe, coe_sum]
  rw [h1, h2, exp_sub_coe, exp_sub_coe, exp_sub_coe, div_coe _ _ (sum_blocks l μ M σ ▸ (sum_exp_pos l M).ne'),
    div_coe _ _ (sum_exp_pos l M').ne', ← EReal.coe_mul, blocks_real l μ M M' σ b j]

end Cert.Softmax
-- ==== Proof.Equation.lean ====
/-
The kernel's result is the reference's, over the reals: for finite arguments every device ends with the softmax of the
whole row, whatever the order in which it sums the other devices' statistics.
-/
module

public import proofs.«01_k».proof.Proof.Reads
public import proofs.«01_k».proof.Proof.Payloads
public import proofs.«01_k».proof.Proof.RefValue
public import proofs.«01_k».proof.Proof.Softmax
public import Idealize.ShloMosaic.Lib.Layout

@[expose] public section

noncomputable section

namespace Cert.Equation

open Cert.KernelIdeal Cert.KernelIdeal.Gen Cert.KernelIdealProof Cert.Proto Idealize.ShloMosaic Idealize.ShloMosaic.TcCoe

/-- The column of the whole array that column `j` of device `b` is. -/
def col (b : Fin 8) (j : Fin 4096) : Fin 32768 := ⟨b.val * 4096 + j.val, by have := b.isLt; have := j.isLt; omega⟩

/-- Every column is one of one device's. -/
theorem col_eq (v : Fin 32768) (h₁ : v.val / 4096 < 8) (h₂ : v.val % 4096 < 4096) : col ⟨v.val / 4096, h₁⟩ ⟨v.val % 4096, h₂⟩ = v :=
  Fin.ext (by show v.val / 4096 * 4096 + v.val % 4096 = v.val; omega)

/-- A sum over the row, device by device. -/
theorem sum_col (f : Fin 32768 → EReal) : ∑ v, f v = ∑ b : Fin 8, ∑ j : Fin 4096, f (col b j) := by
  have e : ∀ p : Fin 8 × Fin 4096, (finProdFinEquiv p : Fin (8 * 4096)) = col p.1 p.2 := fun p =>
    Fin.ext (by show p.2.val + 4096 * p.1.val = p.1.val * 4096 + p.2.val; omega)
  rw [← Equiv.sum_comp (finProdFinEquiv : Fin 8 × Fin 4096 ≃ Fin (8 * 4096)) f, Fintype.sum_prod_type]
  exact Finset.sum_congr rfl fun b _ => Finset.sum_congr rfl fun j _ => congrArg f (e (b, j))

/-- The devices in the order in which device `d` holds their statistics. -/
def order (d : Fin 8) : Fin 8 ≃ Fin 8 where
  toFun := bk d
  invFun := bk d
  left_inv := by revert d; decide
  right_inv := by revert d; decide

variable (X : FVec Ideal Cert.ReferenceIdeal.S256x512 .f32) (W : FVec Ideal Cert.ReferenceIdeal.S512x32768 .f32)

/-- An extended real that is neither infinity. -/
def IsReal (a : EReal) : Prop := a ≠ ⊤ ∧ a ≠ ⊥

/-- The logits of one row, as reals. -/
def lgt (r : Fin 256) (b : Fin 8) (j : Fin 4096) : ℝ :=
  ∑ k : Fin 512, (X (ix2 r k) : EReal).toReal * (W (ix2 k (col b j)) : EReal).toReal

variable {X W}

theorem lgt_coe (hX : ∀ i, IsReal (X i)) (hW : ∀ i, IsReal (W i)) (r : Fin 256) (b : Fin 8) (j : Fin 4096) :
    ∑ k : Fin 512, (X (ix2 r k) * W (ix2 k (col b j)) : EReal) = (lgt X W r b j : EReal) := by
  unfold lgt
  rw [Cert.Softmax.coe_sum]
  refine Finset.sum_congr rfl fun k _ => ?_
  rw [EReal.coe_mul, EReal.coe_toReal (hX _).1 (hX _).2, EReal.coe_toReal (hW _).1 (hW _).2]

variable (m : (ℓ : Loc nD τ sig) → Buf (Elt Ideal) ℓ) (ρ : Dev nD → PrngReg)

/-- The devices' arguments are the whole arrays: `X` whole, and each device's columns of `W`. -/
def Args (X : FVec Ideal Cert.ReferenceIdeal.S256x512 .f32) (W : FVec Ideal Cert.ReferenceIdeal.S512x32768 .f32) : Prop :=
  ∀ c : Dev nD, (∀ r k, m ((c : Thread nD τ).loc main_arg0) (ix2 r k) = X (ix2 r k))
    ∧ ∀ k j, m ((c : Thread nD τ).loc main_arg1) (ix2 k j) = W (ix2 k (col c j))

variable {m} (hA : Args m X W) (hX : ∀ i, IsReal (X i)) (hW : ∀ i, IsReal (W i))
include hA hX hW

/-- A device's logits. -/
theorem logit_dev (c : Dev nD) (r : Fin 256) (j : Fin 4096) :
    (k0_pay2 (F := Ideal) (xstg m ρ c) (wstg m ρ c) (ix2 r j) : EReal) = (lgt X W r c j : EReal) := by
  rw [pay2_at, ← lgt_coe hX hW]
  refine Finset.sum_congr rfl fun k _ => ?_
  rw [xstg_at, wstg_at, (hA c).1, (hA c).2]

/-- A device's row maximum is a real. -/
theorem max_dev (r : Fin 256) : ∃ μ : Fin 8 → ℝ, ∀ c : Dev nD, (mL m ρ c (ix1 r) : EReal) = (μ c : EReal) := by
  have h : ∀ c : Dev nD, ∃ μ : ℝ, (mL m ρ c (ix1 r) : EReal) = (μ : EReal) := fun c => by
    obtain ⟨M, hM⟩ := Cert.Softmax.fold_max_real (lgt X W r c)
    refine ⟨M, ?_⟩
    unfold mL
    rw [pay3_at, ← hM]
    simp only [logit_dev ρ hA hX hW]
  exact ⟨fun c => (h c).choose, fun c => (h c).choose_spec⟩

/-- The result of every device is the reference's. -/
theorem out_eq (d : Dev nD) : outG m ρ d = Cert.RefValue.out X W := by
  funext i
  obtain ⟨r, v, rfl⟩ : ∃ (r : Fin 256) (v : Fin 32768), i = ix2 r v := ⟨i 0, i 1, ValueIdx.eq_ix2 i⟩
  obtain ⟨μ, hμ⟩ := max_dev ρ hA hX hW r
  have hb : v.val / 4096 < 8 := by have := v.isLt; omega
  have hj : v.val % 4096 < 4096 := Nat.mod_lt _ (by decide)
  -- the kernel's side
  have hexp : ∀ (c : Dev nD) (j : Fin 4096), (eL m ρ c (ix2 r j) : EReal) = Ideal.exp ((lgt X W r c j : EReal) - (μ c : EReal)) := fun c j => by
    unfold eL
    rw [pay4_at, logit_dev ρ hA hX hW, ← hμ c]; rfl
  have hsum : ∀ c : Dev nD, (sL m ρ c (ix1 r) : EReal) = ∑ j, Ideal.exp ((lgt X W r c j : EReal) - (μ c : EReal)) := fun c => by
    unfold sL
    rw [pay5_at]
    exact Finset.sum_congr rfl fun j _ => hexp c j
  have hM : ∀ (c : Dev nD) (k : Fin 8), (rdM m ρ c (ix3 k 0 r) : EReal) = (μ (order c k) : EReal) := fun c k => by
    rw [rdM_at, pay6_at, hμ]; rfl
  have hS : ∀ (c : Dev nD) (k : Fin 8), (rdS m ρ c (ix3 k 0 r) : EReal)
      = ∑ j, Ideal.exp ((lgt X W r (order c k) j : EReal) - (μ (order c k) : EReal)) := fun c k => by
    rw [rdS_at, pay7_at, hsum]; rfl
  have hker : (outG m ρ d (ix2 r v) : EReal) = (blkV m ρ ⟨v.val / 4096, hb⟩ (ix2 r ⟨v.val % 4096, hj⟩) : EReal) := rfl
  obtain ⟨M, hMM⟩ := Cert.Softmax.fold_max_real fun k => μ (order ⟨v.val / 4096, hb⟩ k)
  -- the reference's side
  have hlog : ∀ b j, (Cert.RefValue.logits X W (ix2 r (col b j)) : EReal) = (lgt X W r b j : EReal) := fun b j => by
    rw [Cert.RefValue.logits_at, lgt_coe hX hW]
  have hlog' : ∀ u : Fin 32768, (Cert.RefValue.logits X W (ix2 r u) : EReal)
      = ((lgt X W r ⟨u.val / 4096, by have := u.isLt; omega⟩ ⟨u.val % 4096, Nat.mod_lt _ (by decide)⟩ : ℝ) : EReal) := fun u => by
    rw [← hlog, col_eq]
  obtain ⟨M', hM'⟩ : ∃ M' : ℝ, (Cert.RefValue.rowMax X W (ix1 r) : EReal) = (M' : EReal) := by
    rw [Cert.RefValue.rowMax_at]
    simp only [hlog']
    exact Cert.Softmax.fold_max_real _
  have href : ∀ b j, (Cert.RefValue.exps X W (ix2 r (col b j)) : EReal) = Ideal.exp ((lgt X W r b j : EReal) - (M' : EReal)) := fun b j => by
    rw [Cert.RefValue.exps_at, hM', hlog]
  refine hker.trans ?_
  unfold blkV
  rw [pay8_at _ _ _ _ _ _ (M : EReal) (by simp only [hM]; exact hMM)]
  simp only [hM, hS, hexp, hμ]
  rw [Cert.Softmax.blocks_ideal (lgt X W r) μ M M' (order _) _ _]
  refine Eq.trans ?_ (Cert.RefValue.out_at X W r v).symm
  rw [sum_col]
  simp only [href]
  rw [← href, col_eq]

end Cert.Equation

end
-- ==== Proof.Value.lean ====
/-
The value claim: from finite arguments, every device ends with the reference's result.
-/
module

public import proofs.«01_k».proof.Defs
public import proofs.«01_k».proof.Proof.Equation
public import proofs.«01_k».proof.Proof.Frames

@[expose] public section

noncomputable section

namespace Cert.Proof

open Idealize.ShloMosaic Idealize.SL.Sem Cert.Equation

/-- The side conditions of the precondition, at one device's shapes. -/
theorem facts_pre_kernel : Cert.Pre_finite_KernelIdeal.Facts where
  bcast_S_S256x512 := by decide
  bcast_S_S512x4096 := by decide

/-- The side conditions of the precondition, at the whole shapes. -/
theorem facts_pre_reference : Cert.Pre_finite_ReferenceIdeal.Facts where
  bcast_S_S256x512 := by decide
  bcast_S_S512x32768 := by decide

/-- A value whose absolute value is less than infinity is a real. -/
theorem real_of_abs_lt (a : EReal) (h : Ideal.cmp .olt (max a (-a)) (Ideal.ofBits .f32 0x7F800000#32) = 1#1) : IsReal a := by
  have e : Ideal.ofBits .f32 0x7F800000#32 = (⊤ : EReal) := by simp [Ideal.ofBits, Ideal.ieee]
  rw [e] at h
  refine ⟨?_, ?_⟩ <;> rintro rfl <;> simp [Ideal.cmp] at h

/-- The precondition says of one device's arguments that they are reals. -/
theorem real_of_pre [Cert.Pre_finite_KernelIdeal.Facts] (m : (ℓ : Loc Cert.KernelIdeal.nD Cert.KernelIdeal.τ Cert.KernelIdeal.sig) → Buf (Elt Ideal) ℓ)
    (h : Pre_KernelIdeal_finite_KernelIdeal m) (c : Dev Cert.KernelIdeal.nD) :
    (∀ i, IsReal (m ((c.tc : Thread Cert.KernelIdeal.nD Cert.KernelIdeal.τ).loc Cert.KernelIdeal.main_arg0) i))
      ∧ ∀ i, IsReal (m ((c.tc : Thread Cert.KernelIdeal.nD Cert.KernelIdeal.τ).loc Cert.KernelIdeal.main_arg1) i) :=
  ⟨fun i => real_of_abs_lt _ (congrFun (h c).1 i), fun i => real_of_abs_lt _ (congrFun (h c).2 i)⟩

/-- The kernel's result is the reference's, over the reals and for finite arguments. -/
theorem value [Cert.Pre_finite_KernelIdeal.Facts] :
    algebraic_KernelIdeal_ReferenceIdeal_pre_finite_KernelIdeal (hKernelIdeal := Cert.KernelIdeal.Gen.facts)
      (hReferenceIdeal := Cert.ReferenceIdeal.Gen.facts) := by
  intro m g m' g' hpre hargs
  have hA : Args m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := fun c => by
    refine ⟨fun r k => congrFun (hargs c).1 _, fun k j => (congrFun (hargs c).2 _).trans ?_⟩
    rw [Layout.block_apply]
    congr 1
    funext a
    match a with
    | ⟨0, _⟩ => exact Fin.ext rfl
    | ⟨1, _⟩ => exact Fin.ext rfl
  have hX : ∀ i, IsReal (m' (((0 : Dev Cert.ReferenceIdeal.nD).tc : Thread Cert.ReferenceIdeal.nD Cert.ReferenceIdeal.τ).loc Cert.ReferenceIdeal.main_arg0) i) := fun i => by
    have := (real_of_pre m hpre 0).1 i
    rwa [congrFun (hargs 0).1 i] at this
  have hW : ∀ i, IsReal (m' (((0 : Dev Cert.ReferenceIdeal.nD).tc : Thread Cert.ReferenceIdeal.nD Cert.ReferenceIdeal.τ).loc Cert.ReferenceIdeal.main_arg1) i) := fun i => by
    obtain ⟨k, v, rfl⟩ : ∃ (k : Fin 512) (v : Fin 32768), i = ix2 k v := ⟨i 0, i 1, ValueIdx.eq_ix2 i⟩
    have hb : v.val / 4096 < 8 := by have := v.isLt; omega
    have h := (real_of_pre m hpre ⟨v.val / 4096, hb⟩).2 (ix2 k ⟨v.val % 4096, Nat.mod_lt _ (by decide)⟩)
    rw [(hA ⟨v.val / 4096, hb⟩).2 k ⟨v.val % 4096, Nat.mod_lt _ (by decide)⟩, col_eq] at h
    exact h
  refine ⟨_, (θ_run _ _ _).mono (fun r h c => ⟨?_, ?_, ?_⟩) (Cert.KernelIdealProof.run_main m g),
    (θ_run _ _ _).mono (fun r h => ⟨(h 0).1, (h 0).2⟩) (Cert.ReferenceIdeal.Value.run (F := Ideal) m' g')⟩
  · exact (h.1 c (2 : Fin 3)).trans ((Cert.KernelIdealProof.final_out m g c).trans (out_eq g hA hX hW c))
  · exact (h.1 c (0 : Fin 3)).trans (Cert.KernelIdealProof.finalA_x m g c)
  · exact (h.1 c (1 : Fin 3)).trans (Cert.KernelIdealProof.finalA_w m g c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := by
  haveI := facts_pre_kernel
  haveI := facts_pre_reference
  exact ⟨Cert.Kernel.Gen.facts, Cert.KernelIdeal.Gen.facts, Cert.ReferenceIdeal.Gen.facts, facts_pre_kernel, facts_pre_reference,
    frame_kernel, frame_ideal, fun m g _ => frame_ideal m g trivial, frame_reference, fun m g _ => frame_reference m g trivial,
    trivial, value⟩

end Cert.Proof

end
